-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S256x512 : Shape := ⟨2, ![256, 512]⟩
abbrev S32x512 : Shape := ⟨2, ![32, 512]⟩
abbrev S128x512 : Shape := ⟨2, ![128, 512]⟩
abbrev S5 : Shape := ⟨1, ![5]⟩
abbrev S_ : Shape := ⟨0, ![]⟩
abbrev S32x256 : Shape := ⟨2, ![32, 256]⟩
abbrev S256x256 : Shape := ⟨2, ![256, 256]⟩
abbrev S32x1 : Shape := ⟨2, ![32, 1]⟩
abbrev S256x1 : Shape := ⟨2, ![256, 1]⟩
abbrev S256 : Shape := ⟨1, ![256]⟩
abbrev S1x256x512 : Shape := ⟨3, ![1, 256, 512]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S32x512, .f32⟩
  | .local _ .vmem, ⟨0, _⟩ => ⟨S512x256, .f32⟩
  | .local _ .vmem, ⟨1, _⟩ => ⟨S256x32, .f32⟩
  | .local _ .vmem, ⟨2, _⟩ => ⟨S512x1, .i32⟩
  | .local _ .vmem, ⟨3, _⟩ => ⟨S2x256x512, .f32⟩
  | .local _ .vmem, ⟨4, _⟩ => ⟨S256x512, .f32⟩
  | .local _ .vmem, ⟨5, _⟩ => ⟨S32x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S128x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 3 16 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_19 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_12 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.xori v29 c1_i32_11
  let v33 : BitVec 32 := Scalar.addi v32 v30
  let c1_i32_18 : BitVec 32 := 1#32
  let v43 : BitVec 32 := Scalar.muli v33 c1_i32_18
  let v44 : BitVec 32 := Scalar.addi c0_i32_19 v43
  v44.toNat
def k0_dev2 (d0 : Dev nD) : Nat :=
  let c0_i32_22 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v31 : BitVec 32 := Scalar.subi c3_i32 v29
  let v35 : BitVec 32 := Scalar.addi v34 v31
  let c1_i32_21 : BitVec 32 := 1#32
  let v45 : BitVec 32 := Scalar.muli v35 c1_i32_21
  let v46 : BitVec 32 := Scalar.addi c0_i32_22 v45
  v46.toNat
def k0_dev3 (d0 : Dev nD) : Nat :=
  let c0_i32_25 : BitVec 32 := 0#32
  let c4_i32_15 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_14 : BitVec 32 := 1#32
  let v36 : BitVec 32 := Scalar.xori v19 c1_i32_14
  let v37 : BitVec 32 := Scalar.muli c4_i32_15 v36
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v38 : BitVec 32 := Scalar.addi v37 v29
  let c1_i32_24 : BitVec 32 := 1#32
  let v47 : BitVec 32 := Scalar.muli v38 c1_i32_24
  let v48 : BitVec 32 := Scalar.addi c0_i32_25 v47
  v48.toNat
def k0_dev4 (d0 : Dev nD) : Nat :=
  let c0_i32_28 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v39 : BitVec 32 := Scalar.xori v19 c2_i32
  let v40 : BitVec 32 := Scalar.muli c4_i32_16 v39
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v41 : BitVec 32 := Scalar.addi v40 v29
  let c1_i32_27 : BitVec 32 := 1#32
  let v49 : BitVec 32 := Scalar.muli v41 c1_i32_27
  let v50 : BitVec 32 := Scalar.addi c0_i32_28 v49
  v50.toNat
def k0_off1 (d0 : Dev nD) (c0_i32_31 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.xori v29 c1_i32_11
  let v52 : BitVec 32 := Scalar.addi c0_i32_31 v30
  let c32_i32 : BitVec 32 := 32#32
  let v72 : BitVec 32 := Scalar.muli v52 c32_i32
  let v73 : Index := Scalar.indexCast v72
  let c0 : Index := 0#32
  ![v73.toNat, 0]
def k0_off2 (d0 : Dev nD) (c0_i32_34 : BitVec 32) : Fin 2 → Nat :=
  let c3_i32_33 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.xori v29 c1_i32_11
  let v56 : BitVec 32 := Scalar.subi c3_i32_33 v30
  let v57 : BitVec 32 := Scalar.addi c0_i32_34 v56
  let c32_i32_55 : BitVec 32 := 32#32
  let v88 : BitVec 32 := Scalar.muli v57 c32_i32_55
  let v89 : Index := Scalar.indexCast v88
  let c0_56 : Index := 0#32
  ![v89.toNat, 0]
def k0_off3 (d0 : Dev nD) (c0_i32_31 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.xori v29 c1_i32_11
  let v52 : BitVec 32 := Scalar.addi c0_i32_31 v30
  let c32_i32_63 : BitVec 32 := 32#32
  let v105 : BitVec 32 := Scalar.muli v52 c32_i32_63
  let v106 : Index := Scalar.indexCast v105
  let c0_64 : Index := 0#32
  ![v106.toNat, 0]
def k0_off4 (d0 : Dev nD) (c0_i32_34 : BitVec 32) : Fin 2 → Nat :=
  let c3_i32_33 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.xori v29 c1_i32_11
  let v56 : BitVec 32 := Scalar.subi c3_i32_33 v30
  let v57 : BitVec 32 := Scalar.addi c0_i32_34 v56
  let c32_i32_71 : BitVec 32 := 32#32
  let v121 : BitVec 32 := Scalar.muli v57 c32_i32_71
  let v122 : Index := Scalar.indexCast v121
  let c0_72 : Index := 0#32
  ![v122.toNat, 0]
def k0_dev5 (d0 : Dev nD) : Nat :=
  let c0_i32_100 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v32 : BitVec 32 := Scalar.muli c4_i32_12 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.xori v29 c1_i32_11
  let v33 : BitVec 32 := Scalar.addi v32 v30
  let c1_i32_99 : BitVec 32 := 1#32
  let v180 : BitVec 32 := Scalar.muli v33 c1_i32_99
  let v181 : BitVec 32 := Scalar.addi c0_i32_100 v180
  v181.toNat
def k0_off5 (d0 : Dev nD) (c0_i32_41 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v64 : BitVec 32 := Scalar.addi c0_i32_41 v29
  let c32_i32_103 : BitVec 32 := 32#32
  let v187 : BitVec 32 := Scalar.muli v64 c32_i32_103
  let v188 : Index := Scalar.indexCast v187
  let c0_104 : Index := 0#32
  ![v188.toNat, 0]
def k0_off6 (d0 : Dev nD) (c0_i32_45 : BitVec 32) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v31 : BitVec 32 := Scalar.subi c3_i32 v29
  let v68 : BitVec 32 := Scalar.addi c0_i32_45 v31
  let c32_i32_111 : BitVec 32 := 32#32
  let v203 : BitVec 32 := Scalar.muli v68 c32_i32_111
  let v204 : Index := Scalar.indexCast v203
  let c0_112 : Index := 0#32
  ![v204.toNat, 0]
def k0_off7 (d0 : Dev nD) (c0_i32_41 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v64 : BitVec 32 := Scalar.addi c0_i32_41 v29
  let c32_i32_119 : BitVec 32 := 32#32
  let v220 : BitVec 32 := Scalar.muli v64 c32_i32_119
  let v221 : Index := Scalar.indexCast v220
  let c0_120 : Index := 0#32
  ![v221.toNat, 0]
def k0_off8 (d0 : Dev nD) (c0_i32_45 : BitVec 32) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v31 : BitVec 32 := Scalar.subi c3_i32 v29
  let v68 : BitVec 32 := Scalar.addi c0_i32_45 v31
  let c32_i32_127 : BitVec 32 := 32#32
  let v236 : BitVec 32 := Scalar.muli v68 c32_i32_127
  let v237 : Index := Scalar.indexCast v236
  let c0_128 : Index := 0#32
  ![v237.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_153 : BitVec 32 := 32#32
  let v292 : BitVec 32 := Scalar.muli v2 c32_i32_153
  let v293 : Index := Scalar.indexCast v292
  let c0_154 : Index := 0#32
  ![v293.toNat, 0]
def k0_dev6 (d0 : Dev nD) : Nat :=
  let c0_i32_170 : BitVec 32 := 0#32
  let c4_i32_15 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_14 : BitVec 32 := 1#32
  let v36 : BitVec 32 := Scalar.xori v19 c1_i32_14
  let v37 : BitVec 32 := Scalar.muli c4_i32_15 v36
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v38 : BitVec 32 := Scalar.addi v37 v29
  let c1_i32_169 : BitVec 32 := 1#32
  let v309 : BitVec 32 := Scalar.muli v38 c1_i32_169
  let v310 : BitVec 32 := Scalar.addi c0_i32_170 v309
  v310.toNat
def k0_dev7 (d0 : Dev nD) : Nat :=
  let c0_i32_174 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v31 : BitVec 32 := Scalar.subi c3_i32 v29
  let v35 : BitVec 32 := Scalar.addi v34 v31
  let c1_i32_173 : BitVec 32 := 1#32
  let v311 : BitVec 32 := Scalar.muli v35 c1_i32_173
  let v312 : BitVec 32 := Scalar.addi c0_i32_174 v311
  v312.toNat
def k0_dev8 (d0 : Dev nD) : Nat :=
  let c0_i32_194 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v39 : BitVec 32 := Scalar.xori v19 c2_i32
  let v40 : BitVec 32 := Scalar.muli c4_i32_16 v39
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v41 : BitVec 32 := Scalar.addi v40 v29
  let c1_i32_193 : BitVec 32 := 1#32
  let v331 : BitVec 32 := Scalar.muli v41 c1_i32_193
  let v332 : BitVec 32 := Scalar.addi c0_i32_194 v331
  v332.toNat
def k0_off10 (d0 : Dev nD) (c1_i32_197 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v333 : BitVec 32 := Scalar.xori v19 c1_i32_197
  let c32_i32_201 : BitVec 32 := 32#32
  let v337 : BitVec 32 := Scalar.muli v333 c32_i32_201
  let c0_i32_206 : BitVec 32 := 0#32
  ![v337.toNat, 0]
def k0_dev9 (d0 : Dev nD) : Nat :=
  let c0_i32_205 : BitVec 32 := 0#32
  let c4_i32_15 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_14 : BitVec 32 := 1#32
  let v36 : BitVec 32 := Scalar.xori v19 c1_i32_14
  let v37 : BitVec 32 := Scalar.muli c4_i32_15 v36
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v38 : BitVec 32 := Scalar.addi v37 v29
  let c1_i32_204 : BitVec 32 := 1#32
  let v338 : BitVec 32 := Scalar.muli v38 c1_i32_204
  let v339 : BitVec 32 := Scalar.addi c0_i32_205 v338
  v339.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_198 : BitVec 32 := 1#32
  let v334 : BitVec 32 := Scalar.xori v19 c1_i32_198
  let c2_i32_199 : BitVec 32 := 2#32
  let v335 : BitVec 32 := Scalar.xori v334 c2_i32_199
  let c32_i32_209 : BitVec 32 := 32#32
  let v347 : BitVec 32 := Scalar.muli v335 c32_i32_209
  let c0_i32_214 : BitVec 32 := 0#32
  ![v347.toNat, 0]
def k0_dev10 (d0 : Dev nD) : Nat :=
  let c0_i32_213 : BitVec 32 := 0#32
  let c4_i32_15 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_14 : BitVec 32 := 1#32
  let v36 : BitVec 32 := Scalar.xori v19 c1_i32_14
  let v37 : BitVec 32 := Scalar.muli c4_i32_15 v36
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v38 : BitVec 32 := Scalar.addi v37 v29
  let c1_i32_212 : BitVec 32 := 1#32
  let v348 : BitVec 32 := Scalar.muli v38 c1_i32_212
  let v349 : BitVec 32 := Scalar.addi c0_i32_213 v348
  v349.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32_229 : BitVec 32 := 32#32
  let v369 : BitVec 32 := Scalar.muli v19 c32_i32_229
  let v370 : Index := Scalar.indexCast v369
  let c0_230 : Index := 0#32
  ![v370.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_228 : BitVec 32 := 2#32
  let v368 : BitVec 32 := Scalar.xori v19 c2_i32_228
  let c32_i32_233 : BitVec 32 := 32#32
  let v379 : BitVec 32 := Scalar.muli v368 c32_i32_233
  let v380 : Index := Scalar.indexCast v379
  let c0_234 : Index := 0#32
  ![v380.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_241 : BitVec 32 := 2#32
  let v391 : BitVec 32 := Scalar.xori v19 c2_i32_241
  let c32_i32_242 : BitVec 32 := 32#32
  let v392 : BitVec 32 := Scalar.muli v391 c32_i32_242
  let c0_i32_247 : BitVec 32 := 0#32
  ![v392.toNat, 0]
def k0_dev11 (d0 : Dev nD) : Nat :=
  let c0_i32_246 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v39 : BitVec 32 := Scalar.xori v19 c2_i32
  let v40 : BitVec 32 := Scalar.muli c4_i32_16 v39
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v41 : BitVec 32 := Scalar.addi v40 v29
  let c1_i32_245 : BitVec 32 := 1#32
  let v393 : BitVec 32 := Scalar.muli v41 c1_i32_245
  let v394 : BitVec 32 := Scalar.addi c0_i32_246 v393
  v394.toNat
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32_257 : BitVec 32 := 32#32
  let v410 : BitVec 32 := Scalar.muli v19 c32_i32_257
  let v411 : Index := Scalar.indexCast v410
  let c0_258 : Index := 0#32
  ![v411.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S256x512 : Shape := ⟨2, ![256, 512]⟩
abbrev S512x32 : Shape := ⟨2, ![512, 32]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 68
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S32x256x512, .f32⟩
  | .hbm, ⟨4, _⟩ => ⟨S256x512, .f32⟩
  | .hbm, ⟨5, _⟩ => ⟨S512x32, .f32⟩
  | .hbm, ⟨6, _⟩ => ⟨S_, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S512x1, .f32⟩
  | .hbm, ⟨12, _⟩ => ⟨S512x32, .f32⟩
  | .hbm, ⟨13, _⟩ => ⟨S512x32, .f32⟩
  | .hbm, ⟨14, _⟩ => ⟨S512x32, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S512x32, .f32⟩
  | .hbm, ⟨19, _⟩ => ⟨S512x32, .f32⟩
  | .hbm, ⟨20, _⟩ => ⟨S512x512, .f32⟩
  | .hbm, ⟨21, _⟩ => ⟨S512, .i32⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S_, .i32⟩
  | .hbm, ⟨26, _⟩ => ⟨S512x1, .i32⟩
  | .hbm, ⟨27, _⟩ => ⟨S512x1, .i32⟩
  | .hbm, ⟨28, _⟩ => ⟨S512x1, .i32⟩
  | .hbm, ⟨29, _⟩ => ⟨S512x1x1, .i32⟩
  | .hbm, ⟨30, _⟩ => ⟨S1, .i32⟩
  | .hbm, ⟨31, _⟩ => ⟨S_, .i32⟩
  | .hbm, ⟨32, _⟩ => ⟨S512x1x1, .i32⟩
  | .hbm, ⟨33, _⟩ => ⟨S512x1x1, .i1⟩
  | .hbm, ⟨34, _⟩ => ⟨S1x1x1, .i32⟩
  | .hbm, ⟨35, _⟩ => ⟨S512x1x1, .i32⟩
  | .hbm, ⟨36, _⟩ => ⟨S512x1x1, .i1⟩
  | .hbm, ⟨37, _⟩ => ⟨S512x1x1, .i1⟩
  | .hbm, ⟨38, _⟩ => ⟨S_, .i1⟩
  | .hbm, ⟨39, _⟩ => ⟨S512x1, .i1⟩
  | .hbm, ⟨40, _⟩ => ⟨S512x1, .f32⟩
  | .hbm, ⟨41, _⟩ => ⟨S_, .f32⟩
  | .hbm, ⟨42, _⟩ => ⟨S512x1, .f32⟩
  | .hbm, ⟨43, _⟩ => ⟨S512x1, .f32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S512, .i32⟩
  | .hbm, ⟨51, _⟩ => ⟨S512x1, .i32⟩
  | .hbm, ⟨52, _⟩ => ⟨S512x256x512, .f32⟩
  | .hbm, ⟨53, _⟩ => ⟨S512x512, .f32⟩
  | .hbm, ⟨54, _⟩ => ⟨S_, .i32⟩
  | .hbm, ⟨55, _⟩ => ⟨S512x1, .i32⟩
  | .hbm, ⟨56, _⟩ => ⟨S512x1, .i1⟩
  | .hbm, ⟨57, _⟩ => ⟨S_, .i32⟩
  | .hbm, ⟨58, _⟩ => ⟨S512x1, .i32⟩
  | .hbm, ⟨59, _⟩ => ⟨S512x1, .i1⟩
  | .hbm, ⟨60, _⟩ => ⟨S512x1, .i1⟩
  | .hbm, ⟨61, _⟩ => ⟨S_, .f32⟩
  | .hbm, ⟨62, _⟩ => ⟨S_, .f32⟩
  | .hbm, ⟨63, _⟩ => ⟨S512x1, .f32⟩
  | .hbm, ⟨64, _⟩ => ⟨S512x1, .f32⟩
  | .hbm, ⟨65, _⟩ => ⟨S512x512, .f32⟩
  | .hbm, ⟨66, _⟩ => ⟨S512x512, .f32⟩
  | .hbm, ⟨67, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v14 : Ref sig .tc := ⟨.hbm, 43, rfl⟩
abbrev main_c : Ref sig .tc := ⟨.hbm, 44, rfl⟩
abbrev main_v15 : Ref sig .tc := ⟨.hbm, 45, rfl⟩
abbrev main_v16 : Ref sig .tc := ⟨.hbm, 46, rfl⟩
abbrev main_c_2 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_3 : Ref sig .tc := ⟨.hbm, 54, rfl⟩
abbrev main_v23 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.RunKernelIdeal.Geo.lean ====
module

public import proofs.«01_k».proof.Proof.Gen.KernelIdeal
public import proofs.«01_k».proof.Proof.Gen.KernelIdeal.Skeleton

/-! # Where each device sits, whom it talks to, which rows it works on

Device `c` sits at layer `c / 4` and place `c % 4`.  Its four partners are the devices one
exchange away: each partner map is its own inverse. -/

@[expose] public section

namespace Cert.RunKernelIdeal

open Cert.KernelIdeal Cert.KernelIdeal.Gen Idealize.ShloMosaic Idealize.SL.Sem

set_option backward.proofsInPublic true

/-- The layer of a device. -/
def lay (c : Dev nD) : ℕ := c.val / 4

/-- The partner of exchange number `d`: inside the layer for 0 and 1, across layers for 2 and 3. -/
def par : Fin 4 → Dev nD → Dev nD
  | 0, c => ⟨4 * (c.val / 4) + (c.val % 4).xor 1, by revert c; decide⟩
  | 1, c => ⟨4 * (c.val / 4) + (3 - c.val % 4), by revert c; decide⟩
  | 2, c => ⟨4 * (c.val / 4).xor 1 + c.val % 4, by revert c; decide⟩
  | 3, c => ⟨4 * (c.val / 4).xor 2 + c.val % 4, by revert c; decide⟩

theorem par_par : ∀ (d : Fin 4) (c : Dev nD), par d (par d c) = c := by decide

/-- The partner map as a permutation of the devices. -/
def parE (d : Fin 4) : Dev nD ≃ Dev nD := ⟨par d, par d, par_par d, par_par d⟩

theorem par_ne : ∀ (d : Fin 4) (c : Dev nD), par d c ≠ c := by decide

theorem par_eq_iff (d : Fin 4) (a b : Dev nD) : par d a = b ↔ a = par d b :=
  ⟨fun h => by rw [← h, par_par], fun h => by rw [h, par_par]⟩

theorem dev1 : ∀ c : Dev nD, (⟨k0_dev1 c, k0_dev1_lt c⟩ : Dev nD) = par 0 c := by decide +kernel
theorem dev2 : ∀ c : Dev nD, (⟨k0_dev2 c, k0_dev2_lt c⟩ : Dev nD) = par 1 c := by decide +kernel
theorem dev3 : ∀ c : Dev nD, (⟨k0_dev3 c, k0_dev3_lt c⟩ : Dev nD) = par 2 c := by decide +kernel
theorem dev4 : ∀ c : Dev nD, (⟨k0_dev4 c, k0_dev4_lt c⟩ : Dev nD) = par 3 c := by decide +kernel
theorem dev5 : ∀ c : Dev nD, (⟨k0_dev5 c, k0_dev5_lt c⟩ : Dev nD) = par 0 c := by decide +kernel
theorem dev6 : ∀ c : Dev nD, (⟨k0_dev6 c, k0_dev6_lt c⟩ : Dev nD) = par 2 c := by decide +kernel
theorem dev7 : ∀ c : Dev nD, (⟨k0_dev7 c, k0_dev7_lt c⟩ : Dev nD) = par 1 c := by decide +kernel
theorem dev8 : ∀ c : Dev nD, (⟨k0_dev8 c, k0_dev8_lt c⟩ : Dev nD) = par 3 c := by decide +kernel
theorem dev9 : ∀ c : Dev nD, (⟨k0_dev9 c, k0_dev9_lt c⟩ : Dev nD) = par 2 c := by decide +kernel
theorem dev10 : ∀ c : Dev nD, (⟨k0_dev10 c, k0_dev10_lt c⟩ : Dev nD) = par 2 c := by decide +kernel
theorem dev11 : ∀ c : Dev nD, (⟨k0_dev11 c, k0_dev11_lt c⟩ : Dev nD) = par 3 c := by decide +kernel

/-- The row block of layer `z` with the bits of `k` flipped. -/
def blk (k : ℕ) (c : Dev nD) : ℕ := 32 * (lay c).xor k

theorem off10_1 : ∀ c : Dev nD, k0_off10 c 1#32 = ![blk 1 c, 0] := by decide +kernel
theorem off10_2 : ∀ c : Dev nD, k0_off10 c 2#32 = ![blk 2 c, 0] := by decide +kernel
theorem off11 : ∀ c : Dev nD, k0_off11 c = ![blk 3 c, 0] := by decide +kernel
theorem off12 : ∀ c : Dev nD, k0_off12 c = ![blk 0 c, 0] := by decide +kernel
theorem off13 : ∀ c : Dev nD, k0_off13 c = ![blk 2 c, 0] := by decide +kernel
theorem off14 : ∀ c : Dev nD, k0_off14 c = ![blk 2 c, 0] := by decide +kernel
theorem off15 : ∀ c : Dev nD, k0_off15 c = ![blk 0 c, 0] := by decide +kernel

theorem blk_le : ∀ c : Dev nD, blk 0 c + 32 ≤ 128 ∧ blk 1 c + 32 ≤ 128 ∧ blk 2 c + 32 ≤ 128
    ∧ blk 3 c + 32 ≤ 128 := by decide +kernel

/-- How a partner's blocks are named from this side. -/
theorem blk_par2 : ∀ c : Dev nD, blk 0 (par 2 c) = blk 1 c ∧ blk 1 (par 2 c) = blk 0 c
    ∧ blk 2 (par 2 c) = blk 3 c ∧ blk 3 (par 2 c) = blk 2 c := by decide +kernel
theorem blk_par3 : ∀ c : Dev nD, blk 0 (par 3 c) = blk 2 c ∧ blk 2 (par 3 c) = blk 0 c := by
  decide +kernel

/-- The four blocks are the four quarters of the first 128 rows, in some order. -/
theorem blk_cases : ∀ c : Dev nD,
    (blk 0 c = 0 ∧ blk 1 c = 32 ∧ blk 2 c = 64 ∧ blk 3 c = 96)
    ∨ (blk 0 c = 32 ∧ blk 1 c = 0 ∧ blk 2 c = 96 ∧ blk 3 c = 64)
    ∨ (blk 0 c = 64 ∧ blk 1 c = 96 ∧ blk 2 c = 0 ∧ blk 3 c = 32)
    ∨ (blk 0 c = 96 ∧ blk 1 c = 64 ∧ blk 2 c = 32 ∧ blk 3 c = 0) := by decide +kernel

end Cert.RunKernelIdeal
-- ==== Proof.RunKernelIdeal.Cont.lean ====
module

public import proofs.«01_k».proof.Proof.RunKernelIdeal.Geo
public import proofs.«01_k».proof.Proof.Gen.KernelIdeal.Launch

/-! # What the arrays hold

Every function here is named by the device and by the launch memory `m`: the five input blocks of the
device, the two partial products it computes, and its accumulator after each of the three exchanges. -/

@[expose] public section

noncomputable section

namespace Cert.RunKernelIdeal

open Cert.KernelIdeal Cert.KernelIdeal.Gen
open Idealize.ShloMosaic Idealize.ShloMosaic.TcCoe Idealize.SL.Sem

variable {F : FTy → Type} [FloatOps F]

/-! ## The rectangles -/

/-- Rows `a` to `a + 32` of a 256-row array. -/
def rws (a : ℕ) : Finset S256x512.Idx := Finset.univ.filter fun i => a ≤ (i 0).val ∧ (i 0).val < a + 32
/-- Rows `a` to `a + 32` of a 128-row array. -/
def rwb (a : ℕ) : Finset S128x512.Idx := Finset.univ.filter fun i => a ≤ (i 0).val ∧ (i 0).val < a + 32
/-- The upper 128 rows of a 256-row array. -/
def rhi : Finset S256x512.Idx := Finset.univ.filter fun i => 128 ≤ (i 0).val
/-- The lower 128 rows of a 256-row array. -/
def rlo : Finset S256x512.Idx := Finset.univ.filter fun i => (i 0).val < 128

abbrev rectLo : Rect S256x512 := Rect.unit (s := S256x512) ![0, 0] S128x512.size inb_S256x512_S128x512_0_0
abbrev rectHi : Rect S256x512 := Rect.unit (s := S256x512) ![128, 0] S128x512.size inb_S256x512_S128x512_128_0
/-- The rows a device keeps to the end, as the kernel names them. -/
abbrev rect12 (c : Dev nD) : Rect S256x512 := Rect.unit (s := S256x512) (k0_off12 c) S32x512.size (k0_off12_inb c)
/-- The rows a device adds into and sends on last. -/
abbrev rect13 (c : Dev nD) : Rect S256x512 := Rect.unit (s := S256x512) (k0_off13 c) S32x512.size (k0_off13_inb c)
abbrev rect15 (c : Dev nD) : Rect S128x512 := Rect.unit (s := S128x512) (k0_off15 c) S32x512.size (k0_off15_inb c)

/-! ## The arrays as the body names them -/

abbrev m0 : Memref sig .tc .vmem S512x256 .f32 := Memref.whole cc0_stg0_0
abbrev m1 : Memref sig .tc .vmem S256x32 .f32 := Memref.whole cc0_stg1_0
abbrev m2 : Memref sig .tc .vmem S512x1 .i32 := Memref.whole cc0_stg2_0
abbrev m3 : Memref sig .tc .vmem S2x256x512 .f32 := Memref.whole cc0_stg3_0
abbrev m4 : Memref sig .tc .vmem S256x512 .f32 := Memref.whole cc0_stg4_0
abbrev m5 : Memref sig .tc .vmem S32x512 .f32 := Memref.whole cc0_stg5_0
abbrev m6 : Memref sig .tc .vmem S256x512 .f32 := Memref.whole cc0_scratch0
abbrev m7 : Memref sig .tc .vmem S256x512 .f32 := Memref.whole cc0_scratch1
abbrev m8 : Memref sig .tc .vmem S256x512 .f32 := Memref.whole cc0_scratch2
abbrev m9 : Memref sig .tc .vmem S128x512 .f32 := Memref.whole cc0_scratch3

/-! ## What the loads of the input blocks read -/

/-- 32 rows of `x`. -/
def ldX (X : S512x256.Idx → Elt F .f32) (o : Fin 2 → ℕ) (h : ∀ a, o a + S32x256.size a ≤ S512x256.size a) : Vec F S32x256 .f32 :=
  m0.view.readAt (Elt F) (Rect.unit (s := S512x256) o S32x256.size h).toLoadRect X
/-- 32 rows of the index column. -/
def ldI (I : S512x1.Idx → Elt F .i32) (o : Fin 2 → ℕ) (h : ∀ a, o a + S32x1.size a ≤ S512x1.size a) : Vec F S32x1 .i32 :=
  m2.view.readAt (Elt F) (Rect.unit (s := S512x1) o S32x1.size h).toLoadRect I
/-- The router's weights. -/
def ldR (R : S256x32.Idx → Elt F .f32) : Vec F S256x32 .f32 :=
  m1.view.readAt (Elt F) (Rect.unit (s := S256x32) ![0, 0] S256x32.size inb_S256x32_S256x32_0_0).toLoadRect R
/-- The first of the device's two experts. -/
def ldE0 (E : S2x256x512.Idx → Elt F .f32) : Vec F S1x256x512 .f32 :=
  m3.view.readAt (Elt F) (Rect.unit (s := S2x256x512) ![0, 0, 0] S1x256x512.size inb_S2x256x512_S1x256x512_0_0_0).toLoadRect E
/-- The second. -/
def ldE1 (E : S2x256x512.Idx → Elt F .f32) : Vec F S1x256x512 .f32 :=
  m3.view.readAt (Elt F) (Rect.unit (s := S2x256x512) ![1, 0, 0] S1x256x512.size inb_S2x256x512_S1x256x512_1_0_0).toLoadRect E
/-- The shared expert. -/
def ldS (S : S256x512.Idx → Elt F .f32) : Vec F S256x512 .f32 :=
  m4.view.readAt (Elt F) (Rect.unit (s := S256x512) ![0, 0] S256x512.size inb_S256x512_S256x512_0_0).toLoadRect S

/-! ## The partial products -/

/-- Twice the device's number, as the kernel computes it: the number of its first expert. -/
def wexp (c : Dev nD) : BitVec 32 := Scalar.muli 2#32 (Scalar.remsi (Scalar.divsi (Dev.word c) 1#32) 16#32)

/-- The rows of `x` whose partial product is sent away in the first exchange. -/
def xSend (c : Dev nD) (X : S512x256.Idx → Elt F .f32) : FVec F S256x256 .f32 :=
  k0_pay8 (k0_pay1 (ldX X (k0_off1 c 0#32) (k0_off1_inb c 0))) (k0_pay2 (ldX X (k0_off1 c 4#32) (k0_off1_inb c 1)))
    (k0_pay3 (ldX X (k0_off1 c 8#32) (k0_off1_inb c 2))) (k0_pay4 (ldX X (k0_off1 c 12#32) (k0_off1_inb c 3)))
    (k0_pay5 (ldX X (k0_off2 c 0#32) (k0_off2_inb c 0))) (k0_pay6 (ldX X (k0_off2 c 4#32) (k0_off2_inb c 1)))
    (k0_pay7 (ldX X (k0_off2 c 8#32) (k0_off2_inb c 2))) (ldX X (k0_off2 c 12#32) (k0_off2_inb c 3))
/-- Their indices. -/
def iSend (c : Dev nD) (I : S512x1.Idx → Elt F .i32) : IVec S256x1 32 :=
  k0_pay9 (F := F) (ldI I (k0_off3 c 0#32) (k0_off3_inb c 0)) (ldI I (k0_off3 c 4#32) (k0_off3_inb c 1)) (ldI I (k0_off3 c 8#32) (k0_off3_inb c 2))
    (ldI I (k0_off3 c 12#32) (k0_off3_inb c 3)) (ldI I (k0_off4 c 0#32) (k0_off4_inb c 0)) (ldI I (k0_off4 c 4#32) (k0_off4_inb c 1))
    (ldI I (k0_off4 c 8#32) (k0_off4_inb c 2)) (ldI I (k0_off4 c 12#32) (k0_off4_inb c 3))
/-- Their router scores. -/
def sSend (c : Dev nD) (X : S512x256.Idx → Elt F .f32) (R : S256x32.Idx → Elt F .f32) : FVec F S256x32 .f32 :=
  k0_pay10 (k0_pay1 (ldX X (k0_off1 c 0#32) (k0_off1_inb c 0))) (k0_pay2 (ldX X (k0_off1 c 4#32) (k0_off1_inb c 1)))
    (k0_pay3 (ldX X (k0_off1 c 8#32) (k0_off1_inb c 2))) (k0_pay4 (ldX X (k0_off1 c 12#32) (k0_off1_inb c 3)))
    (k0_pay5 (ldX X (k0_off2 c 0#32) (k0_off2_inb c 0))) (k0_pay6 (ldX X (k0_off2 c 4#32) (k0_off2_inb c 1)))
    (k0_pay7 (ldX X (k0_off2 c 8#32) (k0_off2_inb c 2))) (ldX X (k0_off2 c 12#32) (k0_off2_inb c 3)) (ldR R)
/-- The partial product sent away. -/
def pSend (c : Dev nD) (X : S512x256.Idx → Elt F .f32) (R : S256x32.Idx → Elt F .f32) (I : S512x1.Idx → Elt F .i32)
    (E : S2x256x512.Idx → Elt F .f32) : FVec F S256x512 .f32 :=
  k0_pay11 (wexp c) (xSend c X) (iSend (F := F) c I) (sSend c X R) (ldE0 E) (ldE1 E)

/-- The rows of `x` whose partial product is kept. -/
def xKeep (c : Dev nD) (X : S512x256.Idx → Elt F .f32) : FVec F S256x256 .f32 :=
  k0_pay12 (ldX X (k0_off5 c 0#32) (k0_off5_inb c 0)) (ldX X (k0_off5 c 4#32) (k0_off5_inb c 1)) (ldX X (k0_off5 c 8#32) (k0_off5_inb c 2))
    (ldX X (k0_off5 c 12#32) (k0_off5_inb c 3)) (ldX X (k0_off6 c 0#32) (k0_off6_inb c 0)) (ldX X (k0_off6 c 4#32) (k0_off6_inb c 1))
    (ldX X (k0_off6 c 8#32) (k0_off6_inb c 2)) (ldX X (k0_off6 c 12#32) (k0_off6_inb c 3))
/-- Their indices. -/
def iKeep (c : Dev nD) (I : S512x1.Idx → Elt F .i32) : IVec S256x1 32 :=
  k0_pay13 (F := F) (ldI I (k0_off7 c 0#32) (k0_off7_inb c 0)) (ldI I (k0_off7 c 4#32) (k0_off7_inb c 1)) (ldI I (k0_off7 c 8#32) (k0_off7_inb c 2))
    (ldI I (k0_off7 c 12#32) (k0_off7_inb c 3)) (ldI I (k0_off8 c 0#32) (k0_off8_inb c 0)) (ldI I (k0_off8 c 4#32) (k0_off8_inb c 1))
    (ldI I (k0_off8 c 8#32) (k0_off8_inb c 2)) (ldI I (k0_off8 c 12#32) (k0_off8_inb c 3))
/-- The partial product kept. -/
def pKeep (c : Dev nD) (X : S512x256.Idx → Elt F .f32) (R : S256x32.Idx → Elt F .f32) (I : S512x1.Idx → Elt F .i32)
    (E : S2x256x512.Idx → Elt F .f32) : FVec F S256x512 .f32 :=
  k0_pay15 (wexp c) (xKeep c X) (iKeep (F := F) c I) (k0_pay14 (xKeep c X) (ldR R)) (ldE0 E) (ldE1 E)
/-- The shared expert's product for the rows the device finishes. -/
def pShared (c : Dev nD) (X : S512x256.Idx → Elt F .f32) (S : S256x512.Idx → Elt F .f32) : FVec F S32x512 .f32 :=
  k0_pay16 (ldX X (k0_off9 c) (k0_off9_inb c)) (ldS S)

/-! ## The three exchanges -/

variable (m : (ℓ : Loc nD τ sig) → Buf (Elt F) ℓ)

/-- The five input blocks of device `c`. -/
def xC (c : Dev nD) : S512x256.Idx → Elt F .f32 := (win0_0.blk (0 : Fin 1)).view.read (Elt F) (m ((c : Thread nD τ).loc main_arg0))
def rC (c : Dev nD) : S256x32.Idx → Elt F .f32 := (win0_1.blk (0 : Fin 1)).view.read (Elt F) (m ((c : Thread nD τ).loc main_arg1))
def iC (c : Dev nD) : S512x1.Idx → Elt F .i32 := (win0_2.blk (0 : Fin 1)).view.read (Elt F) (m ((c : Thread nD τ).loc main_arg2))
def eC (c : Dev nD) : S2x256x512.Idx → Elt F .f32 := (win0_3.blk (0 : Fin 1)).view.read (Elt F) (m ((c : Thread nD τ).loc main_arg3))
def sC (c : Dev nD) : S256x512.Idx → Elt F .f32 := (win0_4.blk (0 : Fin 1)).view.read (Elt F) (m ((c : Thread nD τ).loc main_arg4))

/-- What device `c` sends in the first exchange. -/
def sendV (c : Dev nD) : S256x512.Idx → Elt F .f32 := pSend c (xC m c) (rC m c) (iC m c) (eC m c)
/-- What it keeps. -/
def keepV (c : Dev nD) : FVec F S256x512 .f32 := pKeep c (xC m c) (rC m c) (iC m c) (eC m c)
/-- Its accumulator after the first exchange. -/
def acc1 (c : Dev nD) : S256x512.Idx → Elt F .f32 := k0_pay17 (keepV m c) (sendV m (par 0 c))
/-- The upper half of an accumulator, as it lands in a 128-row array. -/
def up (f : S256x512.Idx → Elt F .f32) : S128x512.Idx → Elt F .f32 := (m6.access rectHi).read (Elt F) f
/-- The lower half. -/
def low (f : S256x512.Idx → Elt F .f32) : S128x512.Idx → Elt F .f32 := (m6.access rectLo).read (Elt F) f
/-- The accumulator after the second exchange. -/
def acc2 (c : Dev nD) : S256x512.Idx → Elt F .f32 :=
  (m6.access rectLo).write (Elt F) (acc1 m c) (k0_pay18 (low (acc1 m c)) (up (acc1 m (par 1 c)))) Finset.univ
/-- The accumulator after the first of the two additions of the third exchange. -/
def acc2h (c : Dev nD) : S256x512.Idx → Elt F .f32 :=
  (m6.access (rect12 c)).write (Elt F) (acc2 m c)
    (k0_pay19 ((m6.access (rect12 c)).read (Elt F) (acc2 m c)) ((m8.access (rect12 c)).read (Elt F) (acc2 m (par 2 c)))) Finset.univ
/-- The accumulator after the third exchange. -/
def acc3 (c : Dev nD) : S256x512.Idx → Elt F .f32 :=
  (m6.access (rect13 c)).write (Elt F) (acc2h m c)
    (k0_pay21 (k0_pay20 ((m6.access (rect13 c)).read (Elt F) (acc2h m c)) ((m8.access (rect13 c)).read (Elt F) (acc2 m (par 2 c))))) Finset.univ
/-- The result block of device `c`. -/
def outV (c : Dev nD) : S32x512.Idx → Elt F .f32 :=
  k0_pay22 (pShared c (xC m c) (sC m c)) ((m6.access (rect12 c)).read (Elt F) (acc3 m c))
    ((m9.access (rect15 c)).read (Elt F) (low (acc3 m (par 3 c))))

end Cert.RunKernelIdeal

end
-- ==== Proof.RunKernelIdeal.Proto.lean ====
module

public import proofs.«01_k».proof.Proof.RunKernelIdeal.Cont
public import Idealize.ShloMosaic.Lib.Pipeline.Launch
public import Idealize.ShloMosaic.Lib.Pipeline.Kit
public import Idealize.ShloMosaic.Lib.Tactic

/-! # The protocol: thirteen semaphores per device, one round each

Semaphore 0 of a device is the barrier, 1 and 2 are the two "my buffer is free" signals, 3 to 7 count its
five outgoing transfers and 8 to 12 its five incoming ones.  Each payment onto a semaphore hands over the
pieces of memory listed in `payK`. -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The barrier semaphore. -/
abbrev barS : Sem sig := (SemArray.scalar (sig.barrier 0 rfl) : Sems sig S_).sem

/-- A device's thirteen semaphores. -/
def csem : Fin 13 → SemLoc sig
  | 0 => .reg barS | 1 => .reg cc0_scratch6.sem | 2 => .reg cc0_scratch7.sem
  | 3 => .dma (6 : Fin 16) | 4 => .dma (7 : Fin 16) | 5 => .dma (8 : Fin 16) | 6 => .dma (9 : Fin 16) | 7 => .dma (10 : Fin 16)
  | 8 => .dma (11 : Fin 16) | 9 => .dma (12 : Fin 16) | 10 => .dma (13 : Fin 16) | 11 => .dma (14 : Fin 16) | 12 => .dma (15 : Fin 16)

/-- Which of the thirteen a semaphore is. -/
def idx : SemLoc sig → Option (Fin 13)
  | .reg s => match s.val with | 0 => some 1 | 1 => some 2 | 2 => some 0 | _ => none
  | .dma s => if h : 6 ≤ s.val ∧ s.val < 16 then some ⟨s.val - 3, by omega⟩ else none

theorem idx_csem : ∀ k, idx (csem k) = some k := by decide

/-- Semaphore `k` of device `c`. -/
def kcell (ck : Dev nD × Fin 13) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : some k = some k' := by rw [← idx_csem k, ← idx_csem k']; exact congrArg (fun g : GSem nD τ sig => idx g.2) h
  rw [h1, Option.some.inj h2]

/-- The credit of a transfer of 256, of 128 and of 32 rows. -/
def N256 : ℕ := RefSig.tileCredit S256x512 .f32
def N128 : ℕ := RefSig.tileCredit S128x512 .f32
def N32 : ℕ := RefSig.tileCredit S32x512 .f32

theorem credit256 (v : View sig .tc .vmem S256x512 .f32) : v.dmaCredit = N256 := rfl
theorem credit128 (v : View sig .tc .vmem S128x512 .f32) : v.dmaCredit = N128 := rfl
theorem credit32 (v : View sig .tc .vmem S32x512 .f32) : v.dmaCredit = N32 := rfl

/-- What one payment onto semaphore `k` counts. -/
def amt : Fin 13 → ℕ
  | 0 => 1 | 1 => 1 | 2 => 1
  | 3 => N256 | 4 => N128 | 5 => N32 | 6 => N32 | 7 => N32
  | 8 => N256 | 9 => N128 | 10 => N32 | 11 => N32 | 12 => N32

theorem amt_pos (k : Fin 13) : 0 < amt k := by
  have h1 : 0 < N256 := RefSig.tileCredit_pos _ _ (by decide)
  have h2 : 0 < N128 := RefSig.tileCredit_pos _ _ (by decide)
  have h3 : 0 < N32 := RefSig.tileCredit_pos _ _ (by decide)
  fin_cases k <;> first | exact Nat.one_pos | exact h1 | exact h2 | exact h3

/-- The payments onto semaphore `k`: one from each partner onto the barrier, one onto every other. -/
def dut : Fin 13 → Finset (Fin 4)
  | 0 => Finset.univ
  | _ => {0}

/-! ## What is handed over -/

/-- Device `c` owns the elements `I` of its array `b`, which hold `f`. -/
abbrev Pt (b : Ref sig .tc) (c : Dev nD) (I : Finset b.ty.shape.Idx) (f : b.ty.Contents (Elt F)) : sProp 𝕄 :=
  ((c : Thread nD τ).loc b) ↦[I]{fullShare} f

variable (m : (ℓ : Loc nD τ sig) → Buf (Elt F) ℓ)

/-- What the payment `d` onto semaphore `k` of device `c` hands to `c`. -/
def payK : Fin 13 → Dev nD → Fin 4 → sProp 𝕄
  | 0, c, 0 => iprop(∃ f, Pt cc0_scratch2 (par 0 c) Finset.univ f)
  | 0, c, 1 => iprop(∃ f, Pt cc0_scratch3 (par 1 c) Finset.univ f)
  | 1, c, _ => iprop((∃ f, Pt cc0_scratch2 (par 2 c) (rws (blk 1 c)) f) ∗ (∃ f, Pt cc0_scratch2 (par 2 c) (rws (blk 3 c)) f))
  | 2, c, _ => iprop(∃ f, Pt cc0_scratch3 (par 3 c) (rwb (blk 2 c)) f)
  | 3, c, _ => iprop(∃ f, Pt cc0_scratch1 c Finset.univ f)
  | 4, c, _ => iprop(∃ f, Pt cc0_scratch0 c rhi f)
  | 5, c, _ => iprop(∃ f, Pt cc0_scratch0 c (rws (blk 1 c)) f)
  | 6, c, _ => iprop(∃ f, Pt cc0_scratch0 c (rws (blk 3 c)) f)
  | 7, c, _ => iprop(∃ f, Pt cc0_scratch0 c (rws (blk 2 c)) f)
  | 8, c, _ => Pt cc0_scratch2 c Finset.univ (sendV m (par 0 c))
  | 9, c, _ => Pt cc0_scratch3 c Finset.univ (up (acc1 m (par 1 c)))
  | 10, c, _ => Pt cc0_scratch2 c (rws (blk 0 c)) (acc2 m (par 2 c))
  | 11, c, _ => Pt cc0_scratch2 c (rws (blk 2 c)) (acc2 m (par 2 c))
  | 12, c, _ => Pt cc0_scratch3 c (rwb (blk 0 c)) (low (acc3 m (par 3 c)))
  | _, _, _ => iprop(emp)

instance payK_storable (k : Fin 13) (c : Dev nD) (d : Fin 4) : BI.Storable (upEmb : UEmb _ 𝕄) (payK (F := F) m k c d) := by
  unfold payK
  split <;> infer_instance

/-- The schedule: round 0 only. -/
def ringRd : Rounds.Schedule (GSem nD τ sig) (Fin 4) 𝕄 where
  duties g r := if r = 0 ∧ g.1.2 = .tc then (match idx g.2 with | some k => dut k | none => ∅) else ∅
  unitless _ := False
  amount g _ _ := match idx g.2 with | some k => amt k | none => 1
  payload g _ d := match idx g.2 with | some k => payK m k g.1.1 d | none => iprop(emp)
  amount_pos g _ _ _ := by
    cases h : idx g.2 with
    | none => exact Nat.one_pos
    | some k => exact amt_pos k

instance ringRd_payload_storable (g : GSem nD τ sig) (r : ℕ) (d : Fin 4) :
    BI.Storable (upEmb : UEmb _ 𝕄) ((ringRd (F := F) m).payload g r d) := by
  show BI.Storable upEmb (match idx g.2 with | some k => payK m k g.1.1 d | none => iprop(emp))
  split <;> infer_instance

theorem duties_at (c : Dev nD) (k : Fin 13) : (ringRd (F := F) m).duties (kcell (c, k)) 0 = dut k := by
  show (if (0 : ℕ) = 0 ∧ (kcell (c, k)).1.2 = .tc then (match idx (csem k) with | some k => dut k | none => ∅) else ∅) = dut k
  rw [idx_csem]; exact if_pos ⟨rfl, rfl⟩
theorem duties_later (g : GSem nD τ sig) : ∀ r, 1 ≤ r → (ringRd (F := F) m).duties g r = ∅ :=
  fun r hr => if_neg fun h => by omega
theorem amount_at (c : Dev nD) (k : Fin 13) (d : Fin 4) : (ringRd (F := F) m).amount (kcell (c, k)) 0 d = amt k := by
  show (match idx (csem k) with | some k => amt k | none => 1) = amt k
  rw [idx_csem]
theorem payload_at (c : Dev nD) (k : Fin 13) (d : Fin 4) : (ringRd (F := F) m).payload (kcell (c, k)) 0 d = payK m k c d := by
  show (match idx (csem k) with | some k => payK m k c d | none => iprop(emp)) = _
  rw [idx_csem]

/-- What semaphore `k` counts in its round. -/
def tot : Fin 13 → ℕ
  | 0 => 4
  | k => amt k

theorem expect_at (c : Dev nD) (k : Fin 13) : (ringRd (F := F) m).expect (kcell (c, k)) 0 = tot k := by
  unfold Schedule.expect Schedule.amountOf
  rw [duties_at, Finset.sum_congr rfl fun d _ => amount_at m c k d, Finset.sum_const, smul_eq_mul]
  fin_cases k <;> first | exact Nat.one_mul _ | rfl

/-- What comes with the barrier's round. -/
theorem rest_bar (c : Dev nD) : bigSep ((ringRd (F := F) m).duties (kcell (c, 0)) 0 \ ∅) (fun d => (ringRd (F := F) m).payload (kcell (c, 0)) 0 d)
    = iprop((∃ f, Pt cc0_scratch2 (par 0 c) Finset.univ f) ∗ (∃ f, Pt cc0_scratch3 (par 1 c) Finset.univ f) ∗ emp ∗ emp) := by
  rw [Finset.sdiff_empty, duties_at, show dut 0 = Finset.univ from rfl,
    bigSep_univ_eq_bigSepL [0, 1, 2, 3] (by decide) (by decide), bigSepL_cons_cons, bigSepL_cons_cons, bigSepL_cons_cons, bigSepL_singleton,
    payload_at, payload_at, payload_at, payload_at]
  rfl
/-- What comes with any other semaphore's round. -/
theorem rest_at (c : Dev nD) (k : Fin 13) (hk : k ≠ 0) :
    bigSep ((ringRd (F := F) m).duties (kcell (c, k)) 0 \ ∅) (fun d => (ringRd (F := F) m).payload (kcell (c, k)) 0 d) = payK m k c 0 := by
  have hd : dut k = {0} := by revert hk; revert k; decide
  rw [Finset.sdiff_empty, duties_at, hd, bigSep_singleton, payload_at]

/-! ## Who pays what -/

/-- The sixteen payments a device makes: onto which semaphore, -/
def kk : Fin 16 → Fin 13 := ![0, 0, 0, 0, 1, 2, 3, 4, 5, 6, 7, 8, 9, 10, 11, 12]
/-- as which of its payments, -/
def dd : Fin 16 → Fin 4 := ![0, 1, 2, 3, 0, 0, 0, 0, 0, 0, 0, 0, 0, 0, 0, 0]
/-- and of which partner (none: its own). -/
def pp : Fin 16 → Option (Fin 4) :=
  ![some 0, some 1, some 2, some 3, some 2, some 3, none, none, none, none, none, some 0, some 1, some 2, some 2, some 3]
/-- The device paid. -/
def tE (j : Fin 16) : Dev nD ≃ Dev nD := match pp j with | some d => parE d | none => Equiv.refl _

theorem dd_mem : ∀ j, dd j ∈ dut (kk j) := by decide
theorem kk_dd_inj : ∀ j j', kk j = kk j' → dd j = dd j' → j = j' := by decide

/-- What a device that has the payments `l` ahead of it still owes. -/
def oweL (c : Dev nD) : List (Fin 16) → CellTallies nD τ sig Unit
  | [] => 0
  | j :: l => oweL c l + tallyAt (kcell (tE j c, kk j)) () (amt (kk j))

/-- The payments a device makes that others wait for, in the order it makes them. -/
abbrev allPay : List (Fin 16) := [0, 1, 2, 3, 11, 4, 12, 5, 13, 14, 15]
def O₀ (c : Dev nD) : CellTallies nD τ sig Unit := oweL c allPay

theorem oweL_pos {c : Dev nD} {l : List (Fin 16)} {g : GSem nD τ sig} {u : Unit} (h : 0 < oweL c l g u) :
    ∃ j ∈ l, g = kcell (tE j c, kk j) := by
  induction l with
  | nil => exact absurd h (Nat.lt_irrefl 0)
  | cons j l ih =>
    unfold oweL at h
    rw [Pi.add_apply, Finsupp.add_apply, tallyAt_apply] at h
    by_cases hj : g = kcell (tE j c, kk j) ∧ u = ()
    · exact ⟨j, List.mem_cons_self, hj.1⟩
    · rw [if_neg hj] at h
      obtain ⟨j', hj', e⟩ := ih h
      exact ⟨j', List.mem_cons_of_mem _ hj', e⟩

/-! ## The order of the waits -/

def L (g : GSem nD τ sig) : Finset Unit := if g.1.2 = .tc then {()} else ∅
/-- A wait's place in the order. -/
def levK : Fin 13 → ℕ := ![1, 4, 6, 0, 0, 0, 0, 0, 2, 3, 5, 5, 7]
def levS (s : SemLoc sig) : ℕ := match idx s with | some k => levK k | none => 0
def lv (g : GSem nD τ sig) (_ : Unit) : ℕ := levS g.2

theorem L_of_ne (g : GSem nD τ sig) (h : g.1.2 ≠ .tc) : L g = ∅ := if_neg h
theorem L_tc (c : Dev nD) (sm : SemLoc sig) : L ((c : Thread nD τ), sm) = {()} := if_pos rfl

theorem mayWait (c : Dev nD) (sm : SemLoc sig) (l : List (Fin 16)) (h : ∀ j ∈ l, levS sm < levS (csem (kk j))) :
    (levAts L lv : sProp 𝕄) ⊢ MayWait (c : Thread nD τ) sm () (oweL c l) :=
  MayOwe.of_cut (L := L) (lev := lv) (levS sm)
    (fun p hp => by rw [Finset.mem_singleton.mp hp, L_tc]; exact Finset.mem_singleton_self _)
    (fun g u hg => by
      obtain ⟨j, -, rfl⟩ := oweL_pos hg
      exact Finset.mem_singleton_self _)
    (fun p hp => by rw [Finset.mem_singleton.mp hp]; exact le_refl _)
    (fun g u hg => by
      obtain ⟨j, hj, rfl⟩ := oweL_pos hg
      exact h j hj)

/-! ## What a device starts from -/

/-- What every device knows: the thirteen semaphores of all devices follow the schedule. -/
def records (K : Dev nD × Fin 13 → ℕ) : sProp 𝕄 :=
  iprop((bigSep Finset.univ fun ck : Dev nD × Fin 13 => cellInv ER (ringRd m) (K ck) (kcell ck))
    ∗ bigSep Finset.univ fun ck : Dev nD × Fin 13 => reached ER (kcell ck) 0)

instance records_persistent (K : Dev nD × Fin 13 → ℕ) : BI.Persistent (records m K) := by unfold records; infer_instance

theorem inv_of (K : Dev nD × Fin 13 → ℕ) (ck : Dev nD × Fin 13) :
    (bigSep Finset.univ fun ck : Dev nD × Fin 13 => (cellInv ER (ringRd m) (K ck) (kcell ck) : sProp 𝕄)) ⊢ cellInv ER (ringRd m) (K ck) (kcell ck) :=
  bigSep_elim (Finset.mem_univ ck)
theorem reached_of (ck : Dev nD × Fin 13) :
    (bigSep Finset.univ fun ck : Dev nD × Fin 13 => (reached ER (kcell ck) 0 : sProp 𝕄)) ⊢ reached ER (kcell ck) 0 :=
  bigSep_elim (Finset.mem_univ ck)

theorem rec_inv (K : Dev nD × Fin 13 → ℕ) (c : Dev nD) (k : Fin 13) :
    (records m K : sProp 𝕄) ⊢ cellInv ER (ringRd m) (K (c, k)) (kcell (c, k)) := by
  unfold records
  iintro ⟨H, -⟩
  iapply (inv_of m K (c, k)); iexact H
theorem rec_reached (K : Dev nD × Fin 13 → ℕ) (c : Dev nD) (k : Fin 13) : (records m K : sProp 𝕄) ⊢ reached ER (kcell (c, k)) 0 := by
  unfold records
  iintro ⟨-, H⟩
  iapply (reached_of (F := F) (c, k)); iexact H

/-- The right to make payment `j`. -/
abbrev ptok (c : Dev nD) (j : Fin 16) : sProp 𝕄 := dutyTok ER (kcell (tE j c, kk j)) 0 (dd j)
/-- The right to wait on semaphore `k`. -/
abbrev pos0 (c : Dev nD) (k : Fin 13) : sProp 𝕄 := atPos ER (kcell (c, k)) 0 ∅ 0
/-- The promise that semaphore `k` will be paid (nothing is promised for the outgoing transfers at first). -/
def prm : Fin 13 → ℕ
  | 3 => 0 | 4 => 0 | 5 => 0 | 6 => 0 | 7 => 0
  | k => tot k
abbrev crd (c : Dev nD) (k : Fin 13) : sProp 𝕄 := cred (tallyAt (kcell (c, k)) () (prm k))

def ghost (K : Dev nD × Fin 13 → ℕ) (c : Dev nD) : sProp 𝕄 :=
  iprop(records m K ∗ (bigSep Finset.univ fun k => pos0 c k) ∗ bigSep Finset.univ fun j => ptok c j)

def start (c : Dev nD) : sProp 𝕄 :=
  iprop((∃ K, ghost m K c) ∗ (bigSep Finset.univ fun k => crd c k) ∗ levAts L lv)

end Cert.RunKernelIdeal

end
-- ==== Proof.RunKernelIdeal.Steps.lean ====
module

public import proofs.«01_k».proof.Proof.RunKernelIdeal.Proto

/-! # The four kinds of step: signal, wait, wait for a transfer, start a transfer -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What the rest of a body on device `c` must prove. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` still owes the payments `l`. -/
def Owe (c : Dev nD) (l : List (Fin 16)) : sProp 𝕄 := iprop(∃ W, owes (c : Thread nD τ) (oweL c l) W)

variable (K : Dev nD × Fin 13 → ℕ) (c : Dev nD)

/-- Payment `j`, a signal: the piece handed over goes, one debt less. -/
theorem step_signal {α : Type} {Q : α → sProp 𝕄} (j : Fin 16) {l : List (Fin 16)} {n : Dev nD} (hn : n = tE j c) {s : Sem sig} (hs : SemLoc.reg s = csem (kk j))
    {v : ℤ} (hv : v = ((amt (kk j) : ℕ) : ℤ)) {k : PUnit → Prog (TpuEff nD τ sig (Elt F) Λ₀ .tc) α} :
    iprop(records m K ∗ Owe c (j :: l) ∗ ptok c j ∗ payK m (kk j) (tE j c) (dd j))
      ⊢ iprop((Owe c l -∗ wpc c (k ⟨⟩) Q) -∗ wpc c (.op (.semSignal (n, Proc.tc) s v) k) Q) := by
  subst hn hv
  have hcell : kcell (tE j c, kk j) = (((tE j c, Proc.tc) : Thread nD τ), SemLoc.reg s) := by unfold kcell; rw [← hs]
  have hd : dd j ∈ (ringRd (F := F) m).duties (((tE j c, Proc.tc) : Thread nD τ), SemLoc.reg s) 0 := by
    rw [← hcell, duties_at]; exact dd_mem j
  have ha : (ringRd (F := F) m).amount (((tE j c, Proc.tc) : Thread nD τ), SemLoc.reg s) 0 (dd j) = amt (kk j) := by
    rw [← hcell, amount_at]
  iintro ⟨#HR, HO, Ht, Hp⟩ Hk
  unfold Owe
  icases HO with ⟨%W, HO⟩
  iapply (Rounds.wp_signal 𝒱₀ ER (ringRd m) (c : Thread nD τ) none (dst := ((tE j c, Proc.tc) : Thread nD τ)) (κ := K (tE j c, kk j))
      (r := 0) (d := dd j) hd ha () (oweL c l) (by rw [← hcell])) $$ [HO Ht Hp]
  · rw [← hcell]
    isplitr; · iapply (rec_inv m K (tE j c) (kk j)); iexact HR
    isplitl [HO]; · iexact HO
    isplitl [Ht]; · iexact Ht
    isplitl [Hp]; · rw [payload_at]; iexact Hp
    iapply (rec_reached m K (tE j c) (kk j)); iexact HR
  iintro HO
  iapply Hk
  iexists W; iexact HO

/-- A wait for the whole round of semaphore `k`: what was handed over comes. -/
theorem step_wait {α : Type} {Q : α → sProp 𝕄} (k' : Fin 13) {l : List (Fin 16)} {w : TpuEff nD τ sig (Elt F) Λ₀ .tc PUnit} {sm : SemLoc sig} (hs : sm = csem k')
    {v : ℕ} (hw : ∀ Kt : PUnit → sProp 𝕄, wpE (defs₀ (F := F)) 𝒱₀ (c : Thread nD τ) none Set.univ w Kt = waitSpec (c : Thread nD τ) Set.univ sm v Kt)
    (hv : v = tot k') (hl : ∀ j ∈ l, levS (csem k') < levS (csem (kk j)))
    {k : PUnit → Prog (TpuEff nD τ sig (Elt F) Λ₀ .tc) α} :
    iprop(records m K ∗ levAts L lv ∗ Owe c l ∗ cred (tallyAt (kcell (c, k')) () (tot k')) ∗ pos0 c k')
      ⊢ iprop(((Owe c l ∗ atPos ER (kcell (c, k')) 1 ∅ 0
              ∗ bigSep ((ringRd (F := F) m).duties (kcell (c, k')) 0 \ ∅) (fun d => (ringRd (F := F) m).payload (kcell (c, k')) 0 d))
            -∗ wpc c (k ⟨⟩) Q) -∗ wpc c (.op w k) Q) := by
  subst hs hv
  have hcell : kcell (c, k') = ((c : Thread nD τ), csem k') := rfl
  iintro ⟨#HR, #Hlev, HO, Hc, Ha⟩ Hk
  unfold Owe
  icases HO with ⟨%W, HO⟩
  iapply (Rounds.wp_wait_rest_token 𝒱₀ ER (ringRd m) (c : Thread nD τ) none (κ := K (c, k')) hw (Set.mem_univ _) () (O := oweL c l) (W := W)
      (R := 0) (m := 0) (T := ∅) (by rw [← hcell, expect_at, Nat.zero_add])) $$ [HO Hc Ha]
  · rw [← hcell]
    isplitr; · iapply (rec_inv m K c k'); iexact HR
    isplitl [Hc]; · iexact Hc
    isplitl [HO]; · iexact HO
    isplitr; · iapply (mayWait (F := F) c (csem k') l hl); iexact Hlev
    iexact Ha
  iintro ⟨HO, Ha, -, Hp⟩
  iapply Hk
  isplitl [HO]; · iexists _; iexact HO
  isplitl [Ha]; · iexact Ha
  iexact Hp

/-- Payments `j'` (onto the device's own semaphore) and `j`, a transfer: the source and the target pieces go; the promise that the
    transfer will have left comes. -/
theorem step_send {α : Type} {Q : α → sProp 𝕄} (j' j : Fin 16) (hj' : tE j' c = c) {l : List (Fin 16)} {s : Shape} {src dst : Memref sig .tc .vmem s .f32}
    {n : Dev nD} (hn : n = tE j c) {sS sm : SemLoc sig} (hs' : sS = csem (kk j')) (hs : sm = csem (kk j))
    {hsc : (dst : Memref sig (Dev.tc n : Thread nD τ).2.kind .vmem s .f32).view.ref.isScScratch = false}
    {hsrc : src.view.WordExact} {hdst : dst.view.WordExact}
    {hsem : DmaTarget.Typed .vmem sm (.remote (Dev.tc n : Thread nD τ) dst sS hsc)}
    (hN : dst.view.amount sm = amt (kk j)) (hk : amt (kk j') = amt (kk j))
    {fs : src.view.ref.ty.Contents (Elt F)} {fd : dst.view.ref.ty.Contents (Elt F)}
    (hpay' : (src.view.loc (c : Thread nD τ) ↦[src.view.set]{fullShare} fs : sProp 𝕄) ⊢ payK m (kk j') c (dd j'))
    (hpay : (dst.view.loc (tE j c : Thread nD τ) ↦[dst.view.set]{fullShare} dst.view.write (Elt F) fd (src.view.read (Elt F) fs) Finset.univ : sProp 𝕄)
      ⊢ payK m (kk j) (tE j c) (dd j))
    {k : PUnit → Prog (TpuEff nD τ sig (Elt F) Λ₀ .tc) α} :
    iprop(records m K ∗ Owe c (j :: l) ∗ ptok c j' ∗ ptok c j
        ∗ (src.view.loc (c : Thread nD τ) ↦[src.view.set]{fullShare} fs) ∗ (dst.view.loc (tE j c : Thread nD τ) ↦[dst.view.set]{fullShare} fd))
      ⊢ iprop(((cred (tallyAt (kcell (c, kk j')) () (amt (kk j'))) ∗ Owe c l) -∗ wpc c (k ⟨⟩) Q)
          -∗ wpc c (.op (.enqueueDma src (.remote (Dev.tc n : Thread nD τ) dst sS hsc) sm hsrc hdst hsem) k) Q) := by
  subst hn hs' hs
  have hc' : kcell (c, kk j') = ((c : Thread nD τ), csem (kk j')) := rfl
  have hc : kcell (tE j c, kk j) = (((tE j c : Dev nD) : Thread nD τ), csem (kk j)) := rfl
  have hd' : dd j' ∈ (ringRd (F := F) m).duties ((c : Thread nD τ), csem (kk j')) 0 := by rw [← hc', duties_at]; exact dd_mem j'
  have hd : dd j ∈ (ringRd (F := F) m).duties (((tE j c : Dev nD) : Thread nD τ), csem (kk j)) 0 := by rw [← hc, duties_at]; exact dd_mem j
  have ha' : (ringRd (F := F) m).amount ((c : Thread nD τ), csem (kk j')) 0 (dd j') = amt (kk j) := by rw [← hc', amount_at, hk]
  have ha : (ringRd (F := F) m).amount (((tE j c : Dev nD) : Thread nD τ), csem (kk j)) 0 (dd j) = amt (kk j) := by rw [← hc, amount_at]
  have hp' : (src.view.loc (c : Thread nD τ) ↦[src.view.set]{fullShare} fs : sProp 𝕄) ⊢ (ringRd (F := F) m).payload ((c : Thread nD τ), csem (kk j')) 0 (dd j') := by
    rw [← hc', payload_at]; exact hpay'
  have hp : (dst.view.loc (tE j c : Thread nD τ) ↦[dst.view.set]{fullShare} dst.view.write (Elt F) fd (src.view.read (Elt F) fs) Finset.univ : sProp 𝕄)
      ⊢ (ringRd (F := F) m).payload (((tE j c : Dev nD) : Thread nD τ), csem (kk j)) 0 (dd j) := by
    rw [← hc, payload_at]; exact hpay
  have hO : oweL c (j :: l) = oweL c l + tallyAt (((tE j c : Dev nD) : Thread nD τ), csem (kk j)) () (amt (kk j)) := rfl
  have hsend (W : Waits sig Unit) := Rounds.wp_send_pointsTo (Q := Q) (k := k) (hsrc := hsrc) (hdst := hdst) (hsem := hsem) (defs := defs₀ (F := F))
      (Γ := .empty) 𝒱₀ ER (ringRd m) (c : Thread nD τ) none
      (κ₁ := K (c, kk j')) (κ₂ := K (tE j c, kk j)) hd' hd () () (amt (kk j)) hN ha' ha (oweL c l) hO (W := W) hp' hp (Es := Set.univ)
  rw [hk]
  iintro ⟨#HR, HO, Ht', Ht, Hsrc, Hdst⟩ Hk
  unfold Owe
  icases HO with ⟨%W, HO⟩
  iapply (hsend W) $$ [HO Ht' Ht Hsrc Hdst]
  · rw [← hc', ← hc]
    isplitr; · iapply (rec_inv m K c (kk j')); iexact HR
    isplitr; · iapply (rec_inv m K (tE j c) (kk j)); iexact HR
    isplitl [Hsrc]; · iexact Hsrc
    isplitl [Hdst]; · iexact Hdst
    isplitl [HO]; · iexact HO
    isplitl [Ht']; · rw [← congrArg (fun x => (dutyTok ER (kcell (x, kk j')) 0 (dd j') : sProp 𝕄)) hj']; iexact Ht'
    isplitr; · iapply (rec_reached m K c (kk j')); iexact HR
    isplitl [Ht]; · iexact Ht
    iapply (rec_reached m K (tE j c) (kk j)); iexact HR
  rw [← hc']
  iintro ⟨Hc, HO⟩
  iapply Hk
  isplitl [Hc]; · iexact Hc
  iexists W; iexact HO

/-- A semaphore whose round is over stands at zero for good. -/
theorem step_close (k' : Fin 13) :
    iprop(records m K ∗ atPos ER (kcell (c, k')) 1 ∅ 0) ⊢ (|={Set.univ}=> semVal (kcell (c, k')) 0 : sProp 𝕄) := by
  iintro ⟨#HR, Ha⟩
  iapply (Rounds.cell_close ER (ringRd m) (Set.mem_univ (K (c, k'))) (fun h => h) (R := 1) (duties_later m (kcell (c, k'))))
  isplitr; · iapply (rec_inv m K c k'); iexact HR
  iexact Ha

end Cert.RunKernelIdeal

end
-- ==== Proof.RunKernelIdeal.Views.lean ====
module

public import proofs.«01_k».proof.Proof.RunKernelIdeal.Steps
public import Idealize.ShloMosaic.Lib.ViewIndex

/-! # Pieces of the scratch arrays: which elements a slice covers, how the pieces split and join, and what a transfer leaves -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Element sets -/

theorem mem_rws {a : ℕ} {i : S256x512.Idx} : i ∈ rws a ↔ a ≤ (i 0).val ∧ (i 0).val < a + 32 := by
  unfold rws; rw [Finset.mem_filter]; exact ⟨fun h => h.2, fun h => ⟨Finset.mem_univ _, h⟩⟩
theorem mem_rwb {a : ℕ} {i : S128x512.Idx} : i ∈ rwb a ↔ a ≤ (i 0).val ∧ (i 0).val < a + 32 := by
  unfold rwb; rw [Finset.mem_filter]; exact ⟨fun h => h.2, fun h => ⟨Finset.mem_univ _, h⟩⟩
theorem mem_rhi {i : S256x512.Idx} : i ∈ rhi ↔ 128 ≤ (i 0).val := by
  unfold rhi; rw [Finset.mem_filter]; exact ⟨fun h => h.2, fun h => ⟨Finset.mem_univ _, h⟩⟩
theorem mem_rlo {i : S256x512.Idx} : i ∈ rlo ↔ (i 0).val < 128 := by
  unfold rlo; rw [Finset.mem_filter]; exact ⟨fun h => h.2, fun h => ⟨Finset.mem_univ _, h⟩⟩

/-- A rectangle of 32 whole rows. -/
theorem set_rws {o : Fin 2 → ℕ} {a : ℕ} (ho : o = ![a, 0]) (h : ∀ d, o d + S32x512.size d ≤ S256x512.size d) :
    (Rect.unit (s := S256x512) o S32x512.size h).set = rws a := by
  subst ho
  ext i
  rw [mem_rws, Rect.mem_set_unit]
  exact ⟨fun hi => hi 0, fun hi d => match d with | 0 => hi | 1 => ⟨Nat.zero_le _, by have := (i 1).isLt; show (i 1).val < 0 + 512; rw [Nat.zero_add]; exact this⟩⟩
theorem set_rwb {o : Fin 2 → ℕ} {a : ℕ} (ho : o = ![a, 0]) (h : ∀ d, o d + S32x512.size d ≤ S128x512.size d) :
    (Rect.unit (s := S128x512) o S32x512.size h).set = rwb a := by
  subst ho
  ext i
  rw [mem_rwb, Rect.mem_set_unit]
  exact ⟨fun hi => hi 0, fun hi d => match d with | 0 => hi | 1 => ⟨Nat.zero_le _, by have := (i 1).isLt; show (i 1).val < 0 + 512; rw [Nat.zero_add]; exact this⟩⟩
theorem set_rlo : rectLo.set = rlo := by
  ext i
  rw [mem_rlo, Rect.mem_set_unit]
  exact ⟨fun hi => by have := (hi 0).2; exact this, fun hi d => match d with
    | 0 => ⟨Nat.zero_le _, by show (i 0).val < 0 + 128; rw [Nat.zero_add]; exact hi⟩
    | 1 => ⟨Nat.zero_le _, by have := (i 1).isLt; show (i 1).val < 0 + 512; rw [Nat.zero_add]; exact this⟩⟩
theorem set_rhi : rectHi.set = rhi := by
  ext i
  rw [mem_rhi, Rect.mem_set_unit]
  exact ⟨fun hi => (hi 0).1, fun hi d => match d with
    | 0 => ⟨hi, by have := (i 0).isLt; show (i 0).val < 128 + 128; exact this⟩
    | 1 => ⟨Nat.zero_le _, by have := (i 1).isLt; show (i 1).val < 0 + 512; rw [Nat.zero_add]; exact this⟩⟩

theorem hz2 : (![0, 0] : Fin 2 → ℕ) = fun _ => 0 := funext fun a => by fin_cases a <;> rfl

/-- A rectangle at the origin of the array's own size is all of it. -/
theorem set_full {n k : ℕ} (h : ∀ d, (![0, 0] : Fin 2 → ℕ) d + (⟨2, ![n, k]⟩ : Shape).size d ≤ (⟨2, ![n, k]⟩ : Shape).size d) :
    (Rect.unit (s := ⟨2, ![n, k]⟩) ![0, 0] (⟨2, ![n, k]⟩ : Shape).size h).set = Finset.univ := by
  ext i
  rw [Rect.mem_set_unit]
  exact ⟨fun _ => Finset.mem_univ _, fun _ d => match d with
    | 0 => ⟨Nat.zero_le _, by rw [Matrix.cons_val_zero, Nat.zero_add]; exact (i 0).isLt⟩
    | 1 => ⟨Nat.zero_le _, by show (i 1).val < 0 + _; rw [Nat.zero_add]; exact (i 1).isLt⟩⟩

/-! ## How the arrays fall into pieces -/

theorem rest_univ : (Finset.univ : Finset S256x512.Idx) = rlo ∪ rhi := by
  ext i; rw [Finset.mem_union, mem_rlo, mem_rhi]; exact ⟨fun _ => lt_or_ge _ _, fun _ => Finset.mem_univ _⟩
theorem disj_lohi : Disjoint rlo rhi := Finset.disjoint_left.mpr fun i h h' => by rw [mem_rlo] at h; rw [mem_rhi] at h'; omega

theorem rlo_pieces (c : Dev nD) : rlo = rws (blk 1 c) ∪ (rws (blk 3 c) ∪ (rws (blk 0 c) ∪ rws (blk 2 c))) := by
  ext i
  rw [Finset.mem_union, Finset.mem_union, Finset.mem_union, mem_rlo, mem_rws, mem_rws, mem_rws, mem_rws]
  rcases blk_cases c with ⟨h0, h1, h2, h3⟩ | ⟨h0, h1, h2, h3⟩ | ⟨h0, h1, h2, h3⟩ | ⟨h0, h1, h2, h3⟩ <;> rw [h0, h1, h2, h3] <;> omega
theorem disj_rws {a b : ℕ} (h : a + 32 ≤ b ∨ b + 32 ≤ a) : Disjoint (rws a) (rws b) :=
  Finset.disjoint_left.mpr fun i h1 h2 => by rw [mem_rws] at h1 h2; omega
theorem disj_pieces (c : Dev nD) : Disjoint (rws (blk 0 c)) (rws (blk 2 c)) ∧ Disjoint (rws (blk 3 c)) (rws (blk 0 c) ∪ rws (blk 2 c))
    ∧ Disjoint (rws (blk 1 c)) (rws (blk 3 c) ∪ (rws (blk 0 c) ∪ rws (blk 2 c))) := by
  rcases blk_cases c with ⟨h0, h1, h2, h3⟩ | ⟨h0, h1, h2, h3⟩ | ⟨h0, h1, h2, h3⟩ | ⟨h0, h1, h2, h3⟩ <;> rw [h0, h1, h2, h3] <;>
  exact ⟨disj_rws (by omega), Finset.disjoint_union_right.mpr ⟨disj_rws (by omega), disj_rws (by omega)⟩,
    Finset.disjoint_union_right.mpr ⟨disj_rws (by omega), Finset.disjoint_union_right.mpr ⟨disj_rws (by omega), disj_rws (by omega)⟩⟩⟩

/-- Two disjoint pieces of one array held together. -/
theorem pt_union (b : Ref sig .tc) (c : Dev nD) {I J : Finset b.ty.shape.Idx} (h : Disjoint I J) (f : b.ty.Contents (Elt F)) :
    (Pt b c (I ∪ J) f : sProp 𝕄) ⊢ iprop(Pt b c I f ∗ Pt b c J f) := (pointsTo_union h).1
/-- Two pieces whatever they hold, joined. -/
theorem pt_join (b : Ref sig .tc) (c : Dev nD) {I J : Finset b.ty.shape.Idx} (h : Disjoint I J) :
    iprop((∃ f, Pt b c I f) ∗ (∃ f, Pt b c J f)) ⊢ (iprop(∃ f, Pt b c (I ∪ J) f) : sProp 𝕄) := by
  iintro ⟨⟨%f, H1⟩, %g, H2⟩
  iexists _
  iapply (pointsTo_join h)
  isplitl [H1]; · iexact H1
  iexact H2
/-- An array and the rest of it. -/
theorem univ_sdiff {α : Type} [Fintype α] [DecidableEq α] (I : Finset α) : (Finset.univ : Finset α) = I ∪ (Finset.univ \ I) := by
  rw [Finset.union_sdiff_of_subset (Finset.subset_univ _)]
theorem pt_rest (b : Ref sig .tc) (c : Dev nD) (I : Finset b.ty.shape.Idx) (f : b.ty.Contents (Elt F)) :
    (Pt b c Finset.univ f : sProp 𝕄) ⊢ iprop(Pt b c I f ∗ Pt b c (Finset.univ \ I) f) := by
  conv_lhs => rw [univ_sdiff I]
  exact pt_union b c Finset.disjoint_sdiff f
theorem pt_rest_join (b : Ref sig .tc) (c : Dev nD) (I : Finset b.ty.shape.Idx) :
    iprop((∃ f, Pt b c I f) ∗ (∃ f, Pt b c (Finset.univ \ I) f)) ⊢ (iprop(∃ f, Pt b c Finset.univ f) : sProp 𝕄) := by
  refine (pt_join b c Finset.disjoint_sdiff).trans ?_
  rw [← univ_sdiff]

/-- The lower half in the four pieces the third exchange uses. -/
theorem lo_split (c : Dev nD) (f : S256x512.Idx → Elt F .f32) :
    (Pt cc0_scratch0 c rlo f : sProp 𝕄) ⊢ iprop(Pt cc0_scratch0 c (rws (blk 1 c)) f ∗ Pt cc0_scratch0 c (rws (blk 3 c)) f
      ∗ Pt cc0_scratch0 c (rws (blk 0 c) ∪ rws (blk 2 c)) f) := by
  obtain ⟨-, h3, h1⟩ := disj_pieces c
  iintro H
  rw [rlo_pieces c]
  ihave H := (pt_union (F := F) cc0_scratch0 c h1 f) $$ H
  icases H with ⟨H1, H⟩
  isplitl [H1]; · iexact H1
  iapply (pt_union (F := F) cc0_scratch0 c h3 f); iexact H
/-- All of the accumulator again, whatever its pieces hold. -/
theorem acc_join (c : Dev nD) :
    iprop((∃ f, Pt cc0_scratch0 c rhi f) ∗ (∃ f, Pt cc0_scratch0 c (rws (blk 1 c)) f) ∗ (∃ f, Pt cc0_scratch0 c (rws (blk 3 c)) f)
      ∗ (∃ f, Pt cc0_scratch0 c (rws (blk 0 c)) f) ∗ (∃ f, Pt cc0_scratch0 c (rws (blk 2 c)) f))
      ⊢ (iprop(∃ f, Pt cc0_scratch0 c Finset.univ f) : sProp 𝕄) := by
  obtain ⟨h0, h3, h1⟩ := disj_pieces c
  rw [rest_univ]
  refine BIBase.Entails.trans ?_ (pt_join (F := F) cc0_scratch0 c disj_lohi)
  rw [rlo_pieces c]
  iintro ⟨Hh, H1, H3, H0, H2⟩
  isplitr [Hh]
  · iapply (pt_join (F := F) cc0_scratch0 c h1)
    isplitl [H1]; · iexact H1
    iapply (pt_join (F := F) cc0_scratch0 c h3)
    isplitl [H3]; · iexact H3
    iapply (pt_join (F := F) cc0_scratch0 c h0)
    isplitl [H0]; · iexact H0
    iexact H2
  · iexact Hh

/-! ## What a transfer leaves -/

/-- The same rectangle of two arrays. -/
theorem copy_same (r : Rect S256x512) (fd fs : S256x512.Idx → Elt F .f32) : ∀ i ∈ r.set,
    ((m8 : Memref sig .tc .vmem S256x512 .f32).view.slice r).write (Elt F) fd (((m6 : Memref sig .tc .vmem S256x512 .f32).view.slice r).read (Elt F) fs) Finset.univ i = fs i := by
  intro i hi
  obtain ⟨j, rfl⟩ := View.exists_of_mem_set_slice (v := (m8 : Memref sig .tc .vmem S256x512 .f32).view) (r := r)
    (by rw [show ((m8 : Memref sig .tc .vmem S256x512 .f32).view.slice r).set = r.set from View.set_slice_whole cc0_scratch2 r]; exact hi)
  exact View.write_emb_of_mem _ _ (Finset.mem_univ j)

/-- 32 rows of the lower half of the accumulator into the same rows of a 128-row array. -/
theorem copy_low {o o' : Fin 2 → ℕ} {a : ℕ} (ho : o = ![a, 0]) (ho' : o' = ![a, 0]) (h : ∀ d, o d + S32x512.size d ≤ S256x512.size d)
    (h' : ∀ d, o' d + S32x512.size d ≤ S128x512.size d) (fd : S128x512.Idx → Elt F .f32) (fs : S256x512.Idx → Elt F .f32) :
    ∀ i ∈ rwb a, ((m9 : Memref sig .tc .vmem S128x512 .f32).view.slice (Rect.unit (s := S128x512) o' S32x512.size h')).write (Elt F) fd
      (((m6 : Memref sig .tc .vmem S256x512 .f32).view.slice (Rect.unit (s := S256x512) o S32x512.size h)).read (Elt F) fs) Finset.univ i = low fs i := by
  subst ho ho'
  intro i hi
  rw [← set_rwb rfl h'] at hi
  obtain ⟨j, rfl⟩ := View.exists_of_mem_set_slice (v := (m9 : Memref sig .tc .vmem S128x512 .f32).view) (r := Rect.unit (s := S128x512) ![a, 0] S32x512.size h')
    (by rw [show ((m9 : Memref sig .tc .vmem S128x512 .f32).view.slice (Rect.unit (s := S128x512) ![a, 0] S32x512.size h')).set
        = (Rect.unit (s := S128x512) ![a, 0] S32x512.size h').set from View.set_slice_whole _ _]; exact hi)
  refine (View.write_emb_of_mem _ _ (Finset.mem_univ j)).trans ?_
  refine congrArg fs (funext fun d => Fin.ext ?_)
  match d with
  | 0 => show a + 1 * (j 0).val = 0 + 1 * (a + 1 * (j 0).val); omega
  | 1 => show 0 + 1 * (j 1).val = 0 + 1 * (0 + 1 * (j 1).val); omega

/-- The upper half of the accumulator into all of a 128-row array. -/
theorem copy_up (h : ∀ d, (![0, 0] : Fin 2 → ℕ) d + S128x512.size d ≤ S128x512.size d) (fd : S128x512.Idx → Elt F .f32) (fs : S256x512.Idx → Elt F .f32) :
    ∀ i, ((m9 : Memref sig .tc .vmem S128x512 .f32).view.slice (Rect.unit (s := S128x512) ![0, 0] S128x512.size h)).write (Elt F) fd
      (((m6 : Memref sig .tc .vmem S256x512 .f32).view.slice rectHi).read (Elt F) fs) Finset.univ i = up fs i := by
  intro i
  have hi : i ∈ ((m9 : Memref sig .tc .vmem S128x512 .f32).view.slice (Rect.unit (s := S128x512) ![0, 0] S128x512.size h)).set := by
    rw [show ((m9 : Memref sig .tc .vmem S128x512 .f32).view.slice (Rect.unit (s := S128x512) ![0, 0] S128x512.size h)).set
        = (Rect.unit (s := S128x512) ![0, 0] S128x512.size h).set from View.set_slice_whole _ _, set_full]; exact Finset.mem_univ _
  obtain ⟨j, rfl⟩ := View.exists_of_mem_set_slice hi
  refine (View.write_emb_of_mem _ _ (Finset.mem_univ j)).trans ?_
  refine congrArg fs (funext fun d => Fin.ext ?_)
  match d with
  | 0 => show 128 + 1 * (j 0).val = 128 + 1 * (0 + 1 * (j 0).val); omega
  | 1 => show 0 + 1 * (j 1).val = 0 + 1 * (0 + 1 * (j 1).val); omega

/-- All of one 256-row array into all of another. -/
theorem copy_full (h : ∀ d, (![0, 0] : Fin 2 → ℕ) d + S256x512.size d ≤ S256x512.size d) (fd fs : S256x512.Idx → Elt F .f32) :
    ∀ i, ((m8 : Memref sig .tc .vmem S256x512 .f32).view.slice (Rect.unit (s := S256x512) ![0, 0] S256x512.size h)).write (Elt F) fd
      ((m7 : Memref sig .tc .vmem S256x512 .f32).view.read (Elt F) fs) Finset.univ i = fs i := by
  intro i
  have hi : i ∈ ((m8 : Memref sig .tc .vmem S256x512 .f32).view.slice (Rect.unit (s := S256x512) ![0, 0] S256x512.size h)).set := by
    rw [show ((m8 : Memref sig .tc .vmem S256x512 .f32).view.slice (Rect.unit (s := S256x512) ![0, 0] S256x512.size h)).set
        = (Rect.unit (s := S256x512) ![0, 0] S256x512.size h).set from View.set_slice_whole _ _, set_full]; exact Finset.mem_univ _
  obtain ⟨j, rfl⟩ := View.exists_of_mem_set_slice hi
  refine (View.write_emb_of_mem _ _ (Finset.mem_univ j)).trans ?_
  refine congrArg fs (funext fun d => Fin.ext ?_)
  match d with
  | 0 => show (j 0).val = 0 + 1 * (j 0).val; omega
  | 1 => show (j 1).val = 0 + 1 * (j 1).val; omega

/-! ## Stores and loads of a whole array -/

abbrev rectAll : Rect S256x512 := Rect.unit (s := S256x512) ![0, 0] S256x512.size inb_S256x512_S256x512_0_0
abbrev rectAllB : Rect S128x512 := Rect.unit (s := S128x512) ![0, 0] S128x512.size inb_S128x512_S128x512_0_0
abbrev rectAllO : Rect S32x512 := Rect.unit (s := S32x512) ![0, 0] S32x512.size inb_S32x512_S32x512_0_0

theorem write_m7 (f w : S256x512.Idx → Elt F .f32) : (m7.access rectAll).write (Elt F) f w Finset.univ = w :=
  Memref.write_access_unit_zero_univ (Elt F) cc0_scratch1 hz2 _ f w
theorem write_m6 (f w : S256x512.Idx → Elt F .f32) : (m6.access rectAll).write (Elt F) f w Finset.univ = w :=
  Memref.write_access_unit_zero_univ (Elt F) cc0_scratch0 hz2 _ f w
theorem write_m5 (f w : S32x512.Idx → Elt F .f32) : (m5.access rectAllO).write (Elt F) f w Finset.univ = w :=
  Memref.write_access_unit_zero_univ (Elt F) cc0_stg5_0 hz2 _ f w
theorem read_m8 (f : S256x512.Idx → Elt F .f32) : m8.view.readAt (Elt F) rectAll.toLoadRect f = f :=
  Memref.readAt_unit_zero (Elt F) cc0_scratch2 hz2 _ f
theorem read_m9 (f : S128x512.Idx → Elt F .f32) : m9.view.readAt (Elt F) rectAllB.toLoadRect f = f :=
  Memref.readAt_unit_zero (Elt F) cc0_scratch3 hz2 _ f

/-! ## The semaphores as the body names them, and what a transfer counts -/

theorem sem_send0 : (((cc0_scratch4 : DmaSems sig S5).slice (Rect.unit (s := S5) ![0] S1.size inb_S5_S1_0)).squeeze S_ squeezes_S1_S_).sem = (6 : Fin 16) := by decide
theorem sem_send1 : (((cc0_scratch4 : DmaSems sig S5).slice (Rect.unit (s := S5) ![1] S1.size inb_S5_S1_1)).squeeze S_ squeezes_S1_S_).sem = (7 : Fin 16) := by decide
theorem sem_send2 : (((cc0_scratch4 : DmaSems sig S5).slice (Rect.unit (s := S5) ![2] S1.size inb_S5_S1_2)).squeeze S_ squeezes_S1_S_).sem = (8 : Fin 16) := by decide
theorem sem_send3 : (((cc0_scratch4 : DmaSems sig S5).slice (Rect.unit (s := S5) ![3] S1.size inb_S5_S1_3)).squeeze S_ squeezes_S1_S_).sem = (9 : Fin 16) := by decide
theorem sem_send4 : (((cc0_scratch4 : DmaSems sig S5).slice (Rect.unit (s := S5) ![4] S1.size inb_S5_S1_4)).squeeze S_ squeezes_S1_S_).sem = (10 : Fin 16) := by decide
theorem sem_recv0 : (((cc0_scratch5 : DmaSems sig S5).slice (Rect.unit (s := S5) ![0] S1.size inb_S5_S1_0)).squeeze S_ squeezes_S1_S_).sem = (11 : Fin 16) := by decide
theorem sem_recv1 : (((cc0_scratch5 : DmaSems sig S5).slice (Rect.unit (s := S5) ![1] S1.size inb_S5_S1_1)).squeeze S_ squeezes_S1_S_).sem = (12 : Fin 16) := by decide
theorem sem_recv2 : (((cc0_scratch5 : DmaSems sig S5).slice (Rect.unit (s := S5) ![2] S1.size inb_S5_S1_2)).squeeze S_ squeezes_S1_S_).sem = (13 : Fin 16) := by decide
theorem sem_recv3 : (((cc0_scratch5 : DmaSems sig S5).slice (Rect.unit (s := S5) ![3] S1.size inb_S5_S1_3)).squeeze S_ squeezes_S1_S_).sem = (14 : Fin 16) := by decide
theorem sem_recv4 : (((cc0_scratch5 : DmaSems sig S5).slice (Rect.unit (s := S5) ![4] S1.size inb_S5_S1_4)).squeeze S_ squeezes_S1_S_).sem = (15 : Fin 16) := by decide

end Cert.RunKernelIdeal

end
-- ==== Proof.RunKernelIdeal.Compute.lean ====
module

public import proofs.«01_k».proof.Proof.RunKernelIdeal.Views

/-! # The parts of the body that compute -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

abbrev BV : Type := BitVec 32

/-- The device's number and words computed from it. -/
theorem part1_spec : (iprop(emp) : sProp 𝕄) ⊢ wpc c (k0_part1 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7)
    (fun r => iprop(⌜∃ v19 v29 v30 v31 v33 v35 v37 : BV,
      r = ⟨c, Scalar.remsi (Scalar.divsi (Dev.word c) 1#32) 16#32, v19, v29, v30, v31, v33, v35, v37⟩⌝)) := by
  rw [k0_part1_eq_skeleton]
  unfold k0_part1_skel
  simp only [Prog.lift, Prog.bind_op, Prog.bind_ret, Prog.pure_eq_ret, wp_deviceId]
  rw [wp_ret]
  iintro -
  imodintro
  ipureintro
  exact ⟨_, _, _, _, _, _, _, rfl⟩

/-- Seven loads of rows of `x`. -/
theorem part3_spec (X : S512x256.Idx → Elt F .f32) (a1 a2 a3 a4 a5 a6 a7 a8 a9 a10 : BV) :
    (Pt cc0_stg0_0 c Finset.univ X : sProp 𝕄) ⊢ wpc c (k0_part3 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 c a1 a2 a3 a4 a5 a6 a7 a8 a9 a10)
    (fun r => iprop(⌜∃ v64 v65 v66 v67 v68 v69 v70 v71 v100 : BV,
      r = ⟨v64, v65, v66, v67, v68, v69, v70, v71, k0_pay1 (ldX X (k0_off1 c 0#32) (k0_off1_inb c 0)), k0_pay2 (ldX X (k0_off1 c 4#32) (k0_off1_inb c 1)),
        k0_pay3 (ldX X (k0_off1 c 8#32) (k0_off1_inb c 2)), k0_pay4 (ldX X (k0_off1 c 12#32) (k0_off1_inb c 3)),
        k0_pay5 (ldX X (k0_off2 c 0#32) (k0_off2_inb c 0)), k0_pay6 (ldX X (k0_off2 c 4#32) (k0_off2_inb c 1)),
        k0_pay7 (ldX X (k0_off2 c 8#32) (k0_off2_inb c 2)), v100⟩⌝ ∗ Pt cc0_stg0_0 c Finset.univ X)) := by
  rw [k0_part3_eq_skeleton]
  unfold k0_part3_skel
  simp only [Prog.lift, Prog.bind_op, Prog.bind_ret, Prog.pure_eq_ret]
  iintro HX
  iterate 7
    iapply (wp_load 𝒱₀ (c : Thread nD τ) none Set.univ (m := m0) (Finset.subset_univ _)) $$ HX
    iintro HX
  rw [wp_ret]
  imodintro
  isplitr
  · ipureintro; exact ⟨_, _, _, _, _, _, _, _, _, rfl⟩
  · iexact HX

/-- The rows of `x` to send, their indices and scores. -/
theorem part4_spec (X : S512x256.Idx → Elt F .f32) (R : S256x32.Idx → Elt F .f32) (I : S512x1.Idx → Elt F .i32) (a1 a2 a3 a4 a5 a6 a7 a8 a9 : BV) :
    (iprop(Pt cc0_stg0_0 c Finset.univ X ∗ Pt cc0_stg1_0 c Finset.univ R ∗ Pt cc0_stg2_0 c Finset.univ I) : sProp 𝕄)
    ⊢ wpc c (k0_part4 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 c a1 a2 a3 a4 a5 a6 a7 a8
        (k0_pay1 (ldX X (k0_off1 c 0#32) (k0_off1_inb c 0))) (k0_pay2 (ldX X (k0_off1 c 4#32) (k0_off1_inb c 1)))
        (k0_pay3 (ldX X (k0_off1 c 8#32) (k0_off1_inb c 2))) (k0_pay4 (ldX X (k0_off1 c 12#32) (k0_off1_inb c 3)))
        (k0_pay5 (ldX X (k0_off2 c 0#32) (k0_off2_inb c 0))) (k0_pay6 (ldX X (k0_off2 c 4#32) (k0_off2_inb c 1)))
        (k0_pay7 (ldX X (k0_off2 c 8#32) (k0_off2_inb c 2))) a9)
      (fun r => iprop(⌜r = ⟨xSend c X, iSend (F := F) c I, sSend c X R⟩⌝
        ∗ Pt cc0_stg0_0 c Finset.univ X ∗ Pt cc0_stg1_0 c Finset.univ R ∗ Pt cc0_stg2_0 c Finset.univ I)) := by
  rw [k0_part4_eq_skeleton]
  unfold k0_part4_skel
  simp only [Prog.lift, Prog.bind_op, Prog.bind_ret, Prog.pure_eq_ret]
  iintro ⟨HX, HR, HI⟩
  iapply (wp_load 𝒱₀ (c : Thread nD τ) none Set.univ (m := m0) (Finset.subset_univ _)) $$ HX
  iintro HX
  iterate 8
    iapply (wp_load 𝒱₀ (c : Thread nD τ) none Set.univ (m := m2) (Finset.subset_univ _)) $$ HI
    iintro HI
  iapply (wp_load 𝒱₀ (c : Thread nD τ) none Set.univ (m := m1) (Finset.subset_univ _)) $$ HR
  iintro HR
  rw [wp_ret]
  imodintro
  isplitr
  · ipureintro; rfl
  isplitl [HX]; · iexact HX
  isplitl [HR]; · iexact HR
  iexact HI

/-- The partial product to send, stored. -/
theorem part5_spec (X : S512x256.Idx → Elt F .f32) (R : S256x32.Idx → Elt F .f32) (I : S512x1.Idx → Elt F .i32) (E : S2x256x512.Idx → Elt F .f32) :
    (iprop(Pt cc0_stg3_0 c Finset.univ E ∗ ∃ f, Pt cc0_scratch1 c Finset.univ f) : sProp 𝕄)
    ⊢ wpc c (k0_part5 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 (wexp c) (xSend c X) (iSend (F := F) c I) (sSend c X R))
      (fun _ => iprop(Pt cc0_stg3_0 c Finset.univ E ∗ Pt cc0_scratch1 c Finset.univ (pSend c X R I E))) := by
  rw [k0_part5_eq_skeleton]
  unfold k0_part5_skel
  simp only [Prog.lift, Prog.bind_op, Prog.bind_ret, Prog.pure_eq_ret]
  iintro ⟨HE, %f, Hs⟩
  iterate 2
    iapply (wp_load 𝒱₀ (c : Thread nD τ) none Set.univ (m := m3) (Finset.subset_univ _)) $$ HE
    iintro HE
  iapply (wp_load 𝒱₀ (c : Thread nD τ) none Set.univ (m := m7) (Finset.subset_univ _)) $$ Hs
  iintro Hs
  iapply (wp_store 𝒱₀ (c : Thread nD τ) none Set.univ (m := m7) (r := Rect.unit (s := S256x512) ![0, 0] S256x512.size inb_S256x512_S256x512_0_0)
    (Mk := Finset.univ) (Finset.subset_univ _)) $$ Hs
  iintro Hs
  rw [wp_ret]
  imodintro
  isplitl [HE]; · iexact HE
  rw [write_m7]
  iexact Hs

/-- The indices and scores of the rows kept. -/
theorem part7_spec (X : S512x256.Idx → Elt F .f32) (R : S256x32.Idx → Elt F .f32) (I : S512x1.Idx → Elt F .i32) (a1 a2 a3 a4 a5 a6 a7 a8 : BV) :
    (iprop(Pt cc0_stg1_0 c Finset.univ R ∗ Pt cc0_stg2_0 c Finset.univ I) : sProp 𝕄)
    ⊢ wpc c (k0_part7 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 c a1 a2 a3 a4 a5 a6 a7 a8 (xKeep c X))
      (fun r => iprop(⌜r = ⟨iKeep (F := F) c I, k0_pay14 (xKeep c X) (ldR R)⟩⌝
        ∗ Pt cc0_stg1_0 c Finset.univ R ∗ Pt cc0_stg2_0 c Finset.univ I)) := by
  rw [k0_part7_eq_skeleton]
  unfold k0_part7_skel
  simp only [Prog.lift, Prog.bind_op, Prog.bind_ret, Prog.pure_eq_ret]
  iintro ⟨HR, HI⟩
  iterate 8
    iapply (wp_load 𝒱₀ (c : Thread nD τ) none Set.univ (m := m2) (Finset.subset_univ _)) $$ HI
    iintro HI
  iapply (wp_load 𝒱₀ (c : Thread nD τ) none Set.univ (m := m1) (Finset.subset_univ _)) $$ HR
  iintro HR
  rw [wp_ret]
  imodintro
  isplitr
  · ipureintro; rfl
  isplitl [HR]; · iexact HR
  iexact HI

/-- The partial product kept, and the shared expert's product. -/
theorem part8_spec (X : S512x256.Idx → Elt F .f32) (R : S256x32.Idx → Elt F .f32) (I : S512x1.Idx → Elt F .i32) (E : S2x256x512.Idx → Elt F .f32)
    (S : S256x512.Idx → Elt F .f32) (a1 : BV) :
    (iprop(Pt cc0_stg0_0 c Finset.univ X ∗ Pt cc0_stg3_0 c Finset.univ E ∗ Pt cc0_stg4_0 c Finset.univ S) : sProp 𝕄)
    ⊢ wpc c (k0_part8 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 c a1 (wexp c) (xKeep c X) (iKeep (F := F) c I) (k0_pay14 (xKeep c X) (ldR R)))
      (fun r => iprop(⌜r = ⟨pKeep c X R I E, pShared c X S⟩⌝
        ∗ Pt cc0_stg0_0 c Finset.univ X ∗ Pt cc0_stg3_0 c Finset.univ E ∗ Pt cc0_stg4_0 c Finset.univ S)) := by
  rw [k0_part8_eq_skeleton]
  unfold k0_part8_skel
  simp only [Prog.lift, Prog.bind_op, Prog.bind_ret, Prog.pure_eq_ret]
  iintro ⟨HX, HE, HS⟩
  iterate 2
    iapply (wp_load 𝒱₀ (c : Thread nD τ) none Set.univ (m := m3) (Finset.subset_univ _)) $$ HE
    iintro HE
  iapply (wp_load 𝒱₀ (c : Thread nD τ) none Set.univ (m := m0) (Finset.subset_univ _)) $$ HX
  iintro HX
  iapply (wp_load 𝒱₀ (c : Thread nD τ) none Set.univ (m := m4) (Finset.subset_univ _)) $$ HS
  iintro HS
  rw [wp_ret]
  imodintro
  isplitr
  · ipureintro; rfl
  isplitl [HX]; · iexact HX
  isplitl [HE]; · iexact HE
  iexact HS

end Cert.RunKernelIdeal

end
-- ==== Proof.RunKernelIdeal.Talk.lean ====
module

public import proofs.«01_k».proof.Proof.RunKernelIdeal.Compute

/-! # The parts of the body that exchange -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

theorem wpc_ret {α : Type} {Q : α → sProp 𝕄} {a : α} : (|={Set.univ}=> Q a : sProp 𝕄) ⊢ wpc c (.ret a) Q := by unfold wpc; rw [wp_ret]

/-! ## What is handed over, seen by the device that hands it over -/

theorem give0 : (iprop(∃ f, Pt cc0_scratch2 c Finset.univ f) : sProp 𝕄) ⊢ payK m (kk 0) (tE 0 c) (dd 0) := by
  show _ ⊢ (iprop(∃ f, Pt cc0_scratch2 (par 0 (par 0 c)) Finset.univ f) : sProp 𝕄)
  rw [par_par]
theorem give1 : (iprop(∃ f, Pt cc0_scratch3 c Finset.univ f) : sProp 𝕄) ⊢ payK m (kk 1) (tE 1 c) (dd 1) := by
  show _ ⊢ (iprop(∃ f, Pt cc0_scratch3 (par 1 (par 1 c)) Finset.univ f) : sProp 𝕄)
  rw [par_par]
theorem give4 : (iprop((∃ f, Pt cc0_scratch2 c (rws (blk 0 c)) f) ∗ (∃ f, Pt cc0_scratch2 c (rws (blk 2 c)) f)) : sProp 𝕄)
    ⊢ payK m (kk 4) (tE 4 c) (dd 4) := by
  show _ ⊢ (iprop((∃ f, Pt cc0_scratch2 (par 2 (par 2 c)) (rws (blk 1 (par 2 c))) f) ∗ (∃ f, Pt cc0_scratch2 (par 2 (par 2 c)) (rws (blk 3 (par 2 c))) f)) : sProp 𝕄)
  rw [par_par, (blk_par2 c).2.1, (blk_par2 c).2.2.2]
theorem give5 : (iprop(∃ f, Pt cc0_scratch3 c (rwb (blk 0 c)) f) : sProp 𝕄) ⊢ payK m (kk 5) (tE 5 c) (dd 5) := by
  show _ ⊢ (iprop(∃ f, Pt cc0_scratch3 (par 3 (par 3 c)) (rwb (blk 2 (par 3 c))) f) : sProp 𝕄)
  rw [par_par, (blk_par3 c).2]

/-- The meeting at the start: both landing arrays go to the partners, and the partners' come. -/
theorem part2_spec (v2 a1 a2 a3 a4 a5 a6 : BV) :
    (iprop(records m K ∗ levAts L lv ∗ Owe c allPay ∗ ptok c 0 ∗ ptok c 1 ∗ ptok c 2 ∗ ptok c 3 ∗ cred (tallyAt (kcell (c, 0)) () (tot 0)) ∗ pos0 c 0
      ∗ (∃ f, Pt cc0_scratch2 c Finset.univ f) ∗ ∃ f, Pt cc0_scratch3 c Finset.univ f) : sProp 𝕄)
    ⊢ wpc c (k0_part2 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 c v2 a1 a2 a3 a4 a5 a6)
      (fun r => iprop(⌜∃ v38 v41 v52 v53 v54 v55 v57 v59 v61 v63 : BV, r = ⟨v38, v41, Scalar.muli 2#32 v2, v52, v53, v54, v55, v57, v59, v61, v63⟩⌝
        ∗ Owe c [11, 4, 12, 5, 13, 14, 15] ∗ atPos ER (kcell (c, 0)) 1 ∅ 0
        ∗ (∃ f, Pt cc0_scratch2 (par 0 c) Finset.univ f) ∗ ∃ f, Pt cc0_scratch3 (par 1 c) Finset.univ f)) := by
  rw [k0_part2_eq_skeleton]
  unfold k0_part2_skel
  simp only [semSignalWord, semWaitWord, Prog.lift, Prog.bind_op, Prog.bind_ret, Prog.pure_eq_ret]
  iintro ⟨#HR, #Hlev, HO, T0, T1, T2, T3, HC, HA, HS2, HS3⟩
  iapply (step_signal m K c 0 (dev1 c) rfl rfl) $$ [HO T0 HS2]
  · isplitr; · iexact HR
    isplitl [HO]; · iexact HO
    isplitl [T0]; · iexact T0
    iapply (give0 m c); iexact HS2
  iintro HO
  iapply (step_signal m K c 1 (dev2 c) rfl rfl) $$ [HO T1 HS3]
  · isplitr; · iexact HR
    isplitl [HO]; · iexact HO
    isplitl [T1]; · iexact T1
    iapply (give1 m c); iexact HS3
  iintro HO
  iapply (step_signal m K c 2 (dev3 c) rfl rfl) $$ [HO T2]
  · isplitr; · iexact HR
    isplitl [HO]; · iexact HO
    isplitl [T2]; · iexact T2
    iempintro
  iintro HO
  iapply (step_signal m K c 3 (dev4 c) rfl rfl) $$ [HO T3]
  · isplitr; · iexact HR
    isplitl [HO]; · iexact HO
    isplitl [T3]; · iexact T3
    iempintro
  iintro HO
  iapply (step_wait m K c 0 (l := [11, 4, 12, 5, 13, 14, 15]) rfl (wpE_semWait_eq 𝒱₀ (c : Thread nD τ) none Set.univ) rfl (by decide)) $$ [HO HC HA]
  · isplitr; · iexact HR
    isplitr; · iexact Hlev
    isplitl [HO]; · iexact HO
    isplitl [HC]; · iexact HC
    iexact HA
  rw [rest_bar]
  iintro ⟨HO, HA, HP0, HP1, -, -⟩
  iapply (wpc_ret c)
  imodintro
  isplitr
  · ipureintro; exact ⟨_, _, _, _, _, _, _, _, _, _, rfl⟩
  isplitl [HO]; · iexact HO
  isplitl [HA]; · iexact HA
  isplitl [HP0]; · iexact HP0
  iexact HP1

/-! ## The five transfers -/

/-- The first transfer: the partial product to the partner's landing array. -/
theorem send0_spec {α : Type} {Q : α → sProp 𝕄} {l : List (Fin 16)} {k : PUnit → Prog (TpuEff nD τ sig (Elt F) Λ₀ .tc) α}
    {hsc} {hsrc : m7.view.WordExact} {hdst} {hsem} :
    (iprop(records m K ∗ Owe c (11 :: l) ∗ ptok c 6 ∗ ptok c 11 ∗ Pt cc0_scratch1 c Finset.univ (sendV m c) ∗ ∃ f, Pt cc0_scratch2 (par 0 c) Finset.univ f) : sProp 𝕄)
    ⊢ iprop(((cred (tallyAt (kcell (c, 3)) () (tot 3)) ∗ Owe c l) -∗ wpc c (k ⟨⟩) Q)
      -∗ wpc c (.op (.enqueueDma m7 (.remote (Dev.tc (⟨k0_dev5 c, k0_dev5_lt c⟩ : Dev nD)) (m8.slice rectAll (fun _ => rfl))
        (.dma ((cc0_scratch4.slice (Rect.unit (s := S5) ![0] S1.size inb_S5_S1_0)).squeeze S_ squeezes_S1_S_).sem) hsc)
        (.dma ((cc0_scratch5.slice (Rect.unit (s := S5) ![0] S1.size inb_S5_S1_0)).squeeze S_ squeezes_S1_S_).sem) hsrc hdst hsem) k) Q) := by
  have e1 : (m7 : Memref sig .tc .vmem S256x512 .f32).view.set = Finset.univ := View.set_whole _
  have e2 : (m8.slice rectAll (fun _ => rfl) : Memref sig .tc .vmem S256x512 .f32).view.set = Finset.univ := (View.set_slice_whole cc0_scratch2 rectAll).trans (set_full _)
  iintro ⟨#HR, HO, Ta, Tb, HS, %f, HD⟩
  iapply (step_send m K c 6 11 rfl (dev5 c) (congrArg SemLoc.dma sem_send0) (congrArg SemLoc.dma sem_recv0) (credit256 _) rfl
    (src := m7) (dst := m8.slice rectAll (fun _ => rfl)) (fs := sendV m c) (fd := f)
    (by
      rw [e1]
      show (Pt cc0_scratch1 c Finset.univ (sendV m c) : sProp 𝕄) ⊢ iprop(∃ f, Pt cc0_scratch1 c Finset.univ f)
      iintro H; iexists _; iexact H)
    (by
      rw [e2]
      show (Pt cc0_scratch2 (par 0 c) Finset.univ _ : sProp 𝕄) ⊢ Pt cc0_scratch2 (par 0 c) Finset.univ (sendV m (par 0 (par 0 c)))
      rw [par_par]
      exact Entails.of_eq (pointsTo_congr fun i _ => copy_full inb_S256x512_S256x512_0_0 f (sendV m c) i)))
  rw [e1, e2]
  isplitr; · iexact HR
  isplitl [HO]; · iexact HO
  isplitl [Ta]; · iexact Ta
  isplitl [Tb]; · iexact Tb
  isplitl [HS]; · iexact HS
  iexact HD

end Cert.RunKernelIdeal

end
-- ==== Proof.RunKernelIdeal.Sends.lean ====
module

public import proofs.«01_k».proof.Proof.RunKernelIdeal.Talk

/-! # The other four transfers -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- The second transfer: the upper half of the accumulator. -/
theorem send1_spec {α : Type} {Q : α → sProp 𝕄} {l : List (Fin 16)} {k : PUnit → Prog (TpuEff nD τ sig (Elt F) Λ₀ .tc) α}
    {hsc} {hsrc : ((m6.slice (rectHi) (fun _ => rfl)) : Memref sig .tc .vmem _ .f32).view.WordExact} {hdst} {hsem} :
    (iprop(records m K ∗ Owe c (12 :: l) ∗ ptok c 7 ∗ ptok c 12 ∗ Pt cc0_scratch0 c rhi (acc1 m c) ∗ ∃ f, Pt cc0_scratch3 (par 1 c) Finset.univ f) : sProp 𝕄)
    ⊢ iprop(((cred (tallyAt (kcell (c, 4)) () (tot 4)) ∗ Owe c l) -∗ wpc c (k ⟨⟩) Q)
      -∗ wpc c (.op (.enqueueDma (m6.slice (rectHi) (fun _ => rfl)) (.remote (Dev.tc (⟨k0_dev7 c, k0_dev7_lt c⟩ : Dev nD)) (m9.slice (rectAllB) (fun _ => rfl))
        (.dma ((cc0_scratch4.slice (Rect.unit (s := S5) ![1] S1.size inb_S5_S1_1)).squeeze S_ squeezes_S1_S_).sem) hsc)
        (.dma ((cc0_scratch5.slice (Rect.unit (s := S5) ![1] S1.size inb_S5_S1_1)).squeeze S_ squeezes_S1_S_).sem) hsrc hdst hsem) k) Q) := by
  have e1 : ((m6.slice (rectHi) (fun _ => rfl)) : Memref sig .tc .vmem _ .f32).view.set = rhi := (View.set_slice_whole cc0_scratch0 rectHi).trans set_rhi
  have e2 : ((m9.slice (rectAllB) (fun _ => rfl)) : Memref sig .tc .vmem _ .f32).view.set = Finset.univ := (View.set_slice_whole cc0_scratch3 rectAllB).trans (set_full _)
  iintro ⟨#HR, HO, Ta, Tb, HS, %f, HD⟩
  iapply (step_send m K c 7 12 rfl (dev7 c) (congrArg SemLoc.dma sem_send1) (congrArg SemLoc.dma sem_recv1) (credit128 _) rfl
    (src := (m6.slice (rectHi) (fun _ => rfl))) (dst := (m9.slice (rectAllB) (fun _ => rfl))) (fs := acc1 m c) (fd := f)
    (by
      rw [e1]
      show (Pt cc0_scratch0 c rhi (acc1 m c) : sProp 𝕄) ⊢ iprop(∃ f, Pt cc0_scratch0 c rhi f)
      iintro H; iexists _; iexact H)
    (by
      rw [e2]
      show (Pt cc0_scratch3 (par 1 c) Finset.univ _ : sProp 𝕄) ⊢ Pt cc0_scratch3 (par 1 c) Finset.univ (up (acc1 m (par 1 (par 1 c))))
      rw [par_par]
      exact Entails.of_eq (pointsTo_congr fun i hi => copy_up inb_S128x512_S128x512_0_0 f (acc1 m c) i)))
  rw [e1, e2]
  isplitr; · iexact HR
  isplitl [HO]; · iexact HO
  isplitl [Ta]; · iexact Ta
  isplitl [Tb]; · iexact Tb
  isplitl [HS]; · iexact HS
  iexact HD

/-- The third transfer: the quarter the partner keeps. -/
theorem send2_spec {α : Type} {Q : α → sProp 𝕄} {l : List (Fin 16)} {k : PUnit → Prog (TpuEff nD τ sig (Elt F) Λ₀ .tc) α}
    {hsc} {hsrc : ((m6.slice (Rect.unit (s := S256x512) (k0_off10 c 1#32) S32x512.size (k0_off10_inb c 0)) (fun _ => rfl)) : Memref sig .tc .vmem _ .f32).view.WordExact} {hdst} {hsem} :
    (iprop(records m K ∗ Owe c (13 :: l) ∗ ptok c 8 ∗ ptok c 13 ∗ Pt cc0_scratch0 c (rws (blk 1 c)) (acc2 m c) ∗ ∃ f, Pt cc0_scratch2 (par 2 c) (rws (blk 1 c)) f) : sProp 𝕄)
    ⊢ iprop(((cred (tallyAt (kcell (c, 5)) () (tot 5)) ∗ Owe c l) -∗ wpc c (k ⟨⟩) Q)
      -∗ wpc c (.op (.enqueueDma (m6.slice (Rect.unit (s := S256x512) (k0_off10 c 1#32) S32x512.size (k0_off10_inb c 0)) (fun _ => rfl)) (.remote (Dev.tc (⟨k0_dev9 c, k0_dev9_lt c⟩ : Dev nD)) (m8.slice (Rect.unit (s := S256x512) (k0_off10 c 1#32) S32x512.size (k0_off10_inb c 0)) (fun _ => rfl))
        (.dma ((cc0_scratch4.slice (Rect.unit (s := S5) ![2] S1.size inb_S5_S1_2)).squeeze S_ squeezes_S1_S_).sem) hsc)
        (.dma ((cc0_scratch5.slice (Rect.unit (s := S5) ![2] S1.size inb_S5_S1_2)).squeeze S_ squeezes_S1_S_).sem) hsrc hdst hsem) k) Q) := by
  have e1 : ((m6.slice (Rect.unit (s := S256x512) (k0_off10 c 1#32) S32x512.size (k0_off10_inb c 0)) (fun _ => rfl)) : Memref sig .tc .vmem _ .f32).view.set = (rws (blk 1 c)) := (View.set_slice_whole cc0_scratch0 _).trans (set_rws (off10_1 c) _)
  have e2 : ((m8.slice (Rect.unit (s := S256x512) (k0_off10 c 1#32) S32x512.size (k0_off10_inb c 0)) (fun _ => rfl)) : Memref sig .tc .vmem _ .f32).view.set = (rws (blk 1 c)) := (View.set_slice_whole cc0_scratch2 _).trans (set_rws (off10_1 c) _)
  iintro ⟨#HR, HO, Ta, Tb, HS, %f, HD⟩
  iapply (step_send m K c 8 13 rfl (dev9 c) (congrArg SemLoc.dma sem_send2) (congrArg SemLoc.dma sem_recv2) (credit32 _) rfl
    (src := (m6.slice (Rect.unit (s := S256x512) (k0_off10 c 1#32) S32x512.size (k0_off10_inb c 0)) (fun _ => rfl))) (dst := (m8.slice (Rect.unit (s := S256x512) (k0_off10 c 1#32) S32x512.size (k0_off10_inb c 0)) (fun _ => rfl))) (fs := acc2 m c) (fd := f)
    (by
      rw [e1]
      show (Pt cc0_scratch0 c (rws (blk 1 c)) (acc2 m c) : sProp 𝕄) ⊢ iprop(∃ f, Pt cc0_scratch0 c (rws (blk 1 c)) f)
      iintro H; iexists _; iexact H)
    (by
      rw [e2]
      show (Pt cc0_scratch2 (par 2 c) (rws (blk 1 c)) _ : sProp 𝕄) ⊢ Pt cc0_scratch2 (par 2 c) (rws (blk 0 (par 2 c))) (acc2 m (par 2 (par 2 c)))
      rw [par_par, (blk_par2 c).1]
      exact Entails.of_eq (pointsTo_congr fun i hi => copy_same (Rect.unit (s := S256x512) (k0_off10 c 1#32) S32x512.size (k0_off10_inb c 0)) f (acc2 m c) i (by rw [set_rws (off10_1 c)]; exact hi))))
  rw [e1, e2]
  isplitr; · iexact HR
  isplitl [HO]; · iexact HO
  isplitl [Ta]; · iexact Ta
  isplitl [Tb]; · iexact Tb
  isplitl [HS]; · iexact HS
  iexact HD

/-- The fourth transfer: the quarter the partner passes on. -/
theorem send3_spec {α : Type} {Q : α → sProp 𝕄} {l : List (Fin 16)} {k : PUnit → Prog (TpuEff nD τ sig (Elt F) Λ₀ .tc) α}
    {hsc} {hsrc : ((m6.slice (Rect.unit (s := S256x512) (k0_off11 c) S32x512.size (k0_off11_inb c)) (fun _ => rfl)) : Memref sig .tc .vmem _ .f32).view.WordExact} {hdst} {hsem} :
    (iprop(records m K ∗ Owe c (14 :: l) ∗ ptok c 9 ∗ ptok c 14 ∗ Pt cc0_scratch0 c (rws (blk 3 c)) (acc2 m c) ∗ ∃ f, Pt cc0_scratch2 (par 2 c) (rws (blk 3 c)) f) : sProp 𝕄)
    ⊢ iprop(((cred (tallyAt (kcell (c, 6)) () (tot 6)) ∗ Owe c l) -∗ wpc c (k ⟨⟩) Q)
      -∗ wpc c (.op (.enqueueDma (m6.slice (Rect.unit (s := S256x512) (k0_off11 c) S32x512.size (k0_off11_inb c)) (fun _ => rfl)) (.remote (Dev.tc (⟨k0_dev10 c, k0_dev10_lt c⟩ : Dev nD)) (m8.slice (Rect.unit (s := S256x512) (k0_off11 c) S32x512.size (k0_off11_inb c)) (fun _ => rfl))
        (.dma ((cc0_scratch4.slice (Rect.unit (s := S5) ![3] S1.size inb_S5_S1_3)).squeeze S_ squeezes_S1_S_).sem) hsc)
        (.dma ((cc0_scratch5.slice (Rect.unit (s := S5) ![3] S1.size inb_S5_S1_3)).squeeze S_ squeezes_S1_S_).sem) hsrc hdst hsem) k) Q) := by
  have e1 : ((m6.slice (Rect.unit (s := S256x512) (k0_off11 c) S32x512.size (k0_off11_inb c)) (fun _ => rfl)) : Memref sig .tc .vmem _ .f32).view.set = (rws (blk 3 c)) := (View.set_slice_whole cc0_scratch0 _).trans (set_rws (off11 c) _)
  have e2 : ((m8.slice (Rect.unit (s := S256x512) (k0_off11 c) S32x512.size (k0_off11_inb c)) (fun _ => rfl)) : Memref sig .tc .vmem _ .f32).view.set = (rws (blk 3 c)) := (View.set_slice_whole cc0_scratch2 _).trans (set_rws (off11 c) _)
  iintro ⟨#HR, HO, Ta, Tb, HS, %f, HD⟩
  iapply (step_send m K c 9 14 rfl (dev10 c) (congrArg SemLoc.dma sem_send3) (congrArg SemLoc.dma sem_recv3) (credit32 _) rfl
    (src := (m6.slice (Rect.unit (s := S256x512) (k0_off11 c) S32x512.size (k0_off11_inb c)) (fun _ => rfl))) (dst := (m8.slice (Rect.unit (s := S256x512) (k0_off11 c) S32x512.size (k0_off11_inb c)) (fun _ => rfl))) (fs := acc2 m c) (fd := f)
    (by
      rw [e1]
      show (Pt cc0_scratch0 c (rws (blk 3 c)) (acc2 m c) : sProp 𝕄) ⊢ iprop(∃ f, Pt cc0_scratch0 c (rws (blk 3 c)) f)
      iintro H; iexists _; iexact H)
    (by
      rw [e2]
      show (Pt cc0_scratch2 (par 2 c) (rws (blk 3 c)) _ : sProp 𝕄) ⊢ Pt cc0_scratch2 (par 2 c) (rws (blk 2 (par 2 c))) (acc2 m (par 2 (par 2 c)))
      rw [par_par, (blk_par2 c).2.2.1]
      exact Entails.of_eq (pointsTo_congr fun i hi => copy_same (Rect.unit (s := S256x512) (k0_off11 c) S32x512.size (k0_off11_inb c)) f (acc2 m c) i (by rw [set_rws (off11 c)]; exact hi))))
  rw [e1, e2]
  isplitr; · iexact HR
  isplitl [HO]; · iexact HO
  isplitl [Ta]; · iexact Ta
  isplitl [Tb]; · iexact Tb
  isplitl [HS]; · iexact HS
  iexact HD

/-- The fifth transfer: a finished quarter. -/
theorem send4_spec {α : Type} {Q : α → sProp 𝕄} {l : List (Fin 16)} {k : PUnit → Prog (TpuEff nD τ sig (Elt F) Λ₀ .tc) α}
    {hsc} {hsrc : ((m6.slice (Rect.unit (s := S256x512) (k0_off10 c 2#32) S32x512.size (k0_off10_inb c 1)) (fun _ => rfl)) : Memref sig .tc .vmem _ .f32).view.WordExact} {hdst} {hsem} :
    (iprop(records m K ∗ Owe c (15 :: l) ∗ ptok c 10 ∗ ptok c 15 ∗ Pt cc0_scratch0 c (rws (blk 2 c)) (acc3 m c) ∗ ∃ f, Pt cc0_scratch3 (par 3 c) (rwb (blk 2 c)) f) : sProp 𝕄)
    ⊢ iprop(((cred (tallyAt (kcell (c, 7)) () (tot 7)) ∗ Owe c l) -∗ wpc c (k ⟨⟩) Q)
      -∗ wpc c (.op (.enqueueDma (m6.slice (Rect.unit (s := S256x512) (k0_off10 c 2#32) S32x512.size (k0_off10_inb c 1)) (fun _ => rfl)) (.remote (Dev.tc (⟨k0_dev11 c, k0_dev11_lt c⟩ : Dev nD)) (m9.slice (Rect.unit (s := S128x512) (k0_off14 c) S32x512.size (k0_off14_inb c)) (fun _ => rfl))
        (.dma ((cc0_scratch4.slice (Rect.unit (s := S5) ![4] S1.size inb_S5_S1_4)).squeeze S_ squeezes_S1_S_).sem) hsc)
        (.dma ((cc0_scratch5.slice (Rect.unit (s := S5) ![4] S1.size inb_S5_S1_4)).squeeze S_ squeezes_S1_S_).sem) hsrc hdst hsem) k) Q) := by
  have e1 : ((m6.slice (Rect.unit (s := S256x512) (k0_off10 c 2#32) S32x512.size (k0_off10_inb c 1)) (fun _ => rfl)) : Memref sig .tc .vmem _ .f32).view.set = (rws (blk 2 c)) := (View.set_slice_whole cc0_scratch0 _).trans (set_rws (off10_2 c) _)
  have e2 : ((m9.slice (Rect.unit (s := S128x512) (k0_off14 c) S32x512.size (k0_off14_inb c)) (fun _ => rfl)) : Memref sig .tc .vmem _ .f32).view.set = (rwb (blk 2 c)) := (View.set_slice_whole cc0_scratch3 _).trans (set_rwb (off14 c) _)
  iintro ⟨#HR, HO, Ta, Tb, HS, %f, HD⟩
  iapply (step_send m K c 10 15 rfl (dev11 c) (congrArg SemLoc.dma sem_send4) (congrArg SemLoc.dma sem_recv4) (credit32 _) rfl
    (src := (m6.slice (Rect.unit (s := S256x512) (k0_off10 c 2#32) S32x512.size (k0_off10_inb c 1)) (fun _ => rfl))) (dst := (m9.slice (Rect.unit (s := S128x512) (k0_off14 c) S32x512.size (k0_off14_inb c)) (fun _ => rfl))) (fs := acc3 m c) (fd := f)
    (by
      rw [e1]
      show (Pt cc0_scratch0 c (rws (blk 2 c)) (acc3 m c) : sProp 𝕄) ⊢ iprop(∃ f, Pt cc0_scratch0 c (rws (blk 2 c)) f)
      iintro H; iexists _; iexact H)
    (by
      rw [e2]
      show (Pt cc0_scratch3 (par 3 c) (rwb (blk 2 c)) _ : sProp 𝕄) ⊢ Pt cc0_scratch3 (par 3 c) (rwb (blk 0 (par 3 c))) (low (acc3 m (par 3 (par 3 c))))
      rw [par_par, (blk_par3 c).1]
      exact Entails.of_eq (pointsTo_congr fun i hi => copy_low (off10_2 c) (off14 c) (k0_off10_inb c 1) (k0_off14_inb c) f (acc3 m c) i hi)))
  rw [e1, e2]
  isplitr; · iexact HR
  isplitl [HO]; · iexact HO
  isplitl [Ta]; · iexact Ta
  isplitl [Tb]; · iexact Tb
  isplitl [HS]; · iexact HS
  iexact HD

end Cert.RunKernelIdeal

end
-- ==== Proof.RunKernelIdeal.Rounds.lean ====
module

public import proofs.«01_k».proof.Proof.RunKernelIdeal.Sends

/-! # The exchanging parts of the body -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- The promise that semaphore `k` will be paid in full. -/
abbrev cr (c : Dev nD) (k : Fin 13) : sProp 𝕄 := cred (tallyAt (kcell (c, k)) () (tot k))
/-- Semaphore `k`'s round is over. -/
abbrev pos1 (c : Dev nD) (k : Fin 13) : sProp 𝕄 := atPos ER (kcell (c, k)) 1 ∅ 0

/-- The first transfer starts; the rows of `x` to keep are read. -/
theorem part6_spec (X : S512x256.Idx → Elt F .f32) (a1 a2 a3 a4 a5 a6 a7 a8 a9 a10 : BV) :
    (iprop(records m K ∗ Owe c [11, 4, 12, 5, 13, 14, 15] ∗ ptok c 6 ∗ ptok c 11 ∗ Pt cc0_scratch1 c Finset.univ (sendV m c)
      ∗ (∃ f, Pt cc0_scratch2 (par 0 c) Finset.univ f) ∗ Pt cc0_stg0_0 c Finset.univ X) : sProp 𝕄)
    ⊢ wpc c (k0_part6 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 c a1 a2 a3 a4 a5 a6 a7 a8 a9 a10)
      (fun r => iprop(⌜r = xKeep c X⌝ ∗ cr c 3 ∗ Owe c [4, 12, 5, 13, 14, 15] ∗ Pt cc0_stg0_0 c Finset.univ X)) := by
  rw [k0_part6_eq_skeleton]
  unfold k0_part6_skel
  simp only [semSignalWord, semWaitWord, Prog.lift, Prog.bind_op, Prog.bind_ret, Prog.pure_eq_ret]
  iintro ⟨#HR, HO, Ta, Tb, HS, HD, HX⟩
  iapply (send0_spec m K c (l := [4, 12, 5, 13, 14, 15])) $$ [HO Ta Tb HS HD]
  · isplitr; · iexact HR
    isplitl [HO]; · iexact HO
    isplitl [Ta]; · iexact Ta
    isplitl [Tb]; · iexact Tb
    isplitl [HS]; · iexact HS
    iexact HD
  iintro ⟨HC, HO⟩
  iterate 8
    iapply (wp_load 𝒱₀ (c : Thread nD τ) none Set.univ (m := m0) (Finset.subset_univ _)) $$ HX
    iintro HX
  iapply (wpc_ret c)
  imodintro
  isplitr
  · ipureintro; rfl
  isplitl [HC]; · iexact HC
  isplitl [HO]; · iexact HO
  iexact HX

/-- The first exchange ends and the second runs. -/
theorem part9_spec (a1 a2 a3 : BV) :
    (iprop(records m K ∗ levAts L lv ∗ Owe c [4, 12, 5, 13, 14, 15] ∗ ptok c 4 ∗ ptok c 7 ∗ ptok c 12 ∗ cr c 8 ∗ pos0 c 8 ∗ cr c 9 ∗ pos0 c 9
      ∗ (∃ f, Pt cc0_scratch0 c Finset.univ f) ∗ ∃ f, Pt cc0_scratch3 (par 1 c) Finset.univ f) : sProp 𝕄)
    ⊢ wpc c (k0_part9 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 c a1 a2 a3 (keepV m c))
      (fun _ => iprop(Owe c [5, 13, 14, 15] ∗ pos1 c 8 ∗ pos1 c 9 ∗ cr c 4 ∗ Pt cc0_scratch0 c rlo (acc1 m c)
        ∗ Pt cc0_scratch3 c Finset.univ (up (acc1 m (par 1 c))) ∗ ∃ f, Pt cc0_scratch2 c (Finset.univ \ (rws (blk 0 c) ∪ rws (blk 2 c))) f)) := by
  rw [k0_part9_eq_skeleton]
  unfold k0_part9_skel
  simp only [semSignalWord, semWaitWord, Prog.lift, Prog.bind_op, Prog.bind_ret, Prog.pure_eq_ret]
  iintro ⟨#HR, #Hlev, HO, T4, T7, T12, C8, A8, C9, A9, ⟨%f0, H0⟩, HD⟩
  iapply (step_wait m K c 8 (l := [4, 12, 5, 13, 14, 15]) (congrArg SemLoc.dma sem_recv0) (wpE_waitDma2_eq 𝒱₀ (c : Thread nD τ) none Set.univ) (credit256 _) (by decide)) $$ [HO C8 A8]
  · isplitr; · iexact HR
    isplitr; · iexact Hlev
    isplitl [HO]; · iexact HO
    isplitl [C8]; · iexact C8
    iexact A8
  rw [rest_at m c 8 (by decide)]
  iintro ⟨HO, A8, H2⟩
  ihave H2 := (show payK m 8 c 0 ⊢ (Pt cc0_scratch2 c Finset.univ (sendV m (par 0 c)) : sProp 𝕄) from .rfl) $$ H2
  iapply (wp_load 𝒱₀ (c : Thread nD τ) none Set.univ (m := m8) (Finset.subset_univ _)) $$ H2
  iintro H2
  iapply (wp_load 𝒱₀ (c : Thread nD τ) none Set.univ (m := m6) (Finset.subset_univ _)) $$ H0
  iintro H0
  iapply (wp_store 𝒱₀ (c : Thread nD τ) none Set.univ (m := m6) (r := rectAll) (Mk := Finset.univ) (Finset.subset_univ _)) $$ H0
  iintro H0
  rw [read_m8, write_m6]
  ihave H2 := (pt_rest (F := F) cc0_scratch2 c (rws (blk 0 c) ∪ rws (blk 2 c)) (sendV m (par 0 c))) $$ H2
  icases H2 with ⟨H2, H2r⟩
  ihave H2 := (pt_union (F := F) cc0_scratch2 c (disj_pieces c).1 (sendV m (par 0 c))) $$ H2
  icases H2 with ⟨H2a, H2b⟩
  iapply (step_signal m K c 4 (dev6 c) rfl rfl) $$ [HO T4 H2a H2b]
  · isplitr; · iexact HR
    isplitl [HO]; · iexact HO
    isplitl [T4]; · iexact T4
    iapply (give4 m c)
    isplitl [H2a]; · iexists _; iexact H2a
    iexists _; iexact H2b
  iintro HO
  ihave H0 := (show (View.loc (c : Thread nD τ) (m6.access rectAll) ↦[Finset.univ]{fullShare} k0_pay17 (keepV m c) (sendV m (par 0 c)) : sProp 𝕄)
    ⊢ Pt cc0_scratch0 c (rlo ∪ rhi) (acc1 m c) by rw [← rest_univ]; exact .rfl) $$ H0
  ihave H0 := (pt_union (F := F) cc0_scratch0 c disj_lohi (acc1 m c)) $$ H0
  icases H0 with ⟨H0l, H0h⟩
  iapply (send1_spec m K c (l := [5, 13, 14, 15])) $$ [HO T7 T12 H0h HD]
  · isplitr; · iexact HR
    isplitl [HO]; · iexact HO
    isplitl [T7]; · iexact T7
    isplitl [T12]; · iexact T12
    isplitl [H0h]; · iexact H0h
    iexact HD
  iintro ⟨C4, HO⟩
  iapply (step_wait m K c 9 (l := [5, 13, 14, 15]) (congrArg SemLoc.dma sem_recv1) (wpE_waitDma2_eq 𝒱₀ (c : Thread nD τ) none Set.univ) (credit128 _) (by decide)) $$ [HO C9 A9]
  · isplitr; · iexact HR
    isplitr; · iexact Hlev
    isplitl [HO]; · iexact HO
    isplitl [C9]; · iexact C9
    iexact A9
  rw [rest_at m c 9 (by decide)]
  iintro ⟨HO, A9, H3⟩
  ihave H3 := (show payK m 9 c 0 ⊢ (Pt cc0_scratch3 c Finset.univ (up (acc1 m (par 1 c))) : sProp 𝕄) from .rfl) $$ H3
  iapply (wpc_ret c)
  imodintro
  isplitl [HO]; · iexact HO
  isplitl [A8]; · iexact A8
  isplitl [A9]; · iexact A9
  isplitl [C4]; · iexact C4
  isplitl [H0l]; · iexact H0l
  isplitl [H3]; · iexact H3
  iexists _; iexact H2r

/-- The second exchange is added in; the third starts. -/
theorem part10_spec (a1 a2 a3 : BV) :
    (iprop(records m K ∗ levAts L lv ∗ Owe c [5, 13, 14, 15] ∗ ptok c 5 ∗ ptok c 8 ∗ ptok c 13 ∗ cr c 1 ∗ pos0 c 1
      ∗ Pt cc0_scratch0 c rlo (acc1 m c) ∗ Pt cc0_scratch3 c Finset.univ (up (acc1 m (par 1 c)))) : sProp 𝕄)
    ⊢ wpc c (k0_part10 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 c a1 a2 a3)
      (fun _ => iprop(Owe c [14, 15] ∗ pos1 c 1 ∗ cr c 5 ∗ Pt cc0_scratch0 c (rws (blk 3 c)) (acc2 m c)
        ∗ Pt cc0_scratch0 c (rws (blk 0 c) ∪ rws (blk 2 c)) (acc2 m c)
        ∗ (∃ f, Pt cc0_scratch3 c (Finset.univ \ rwb (blk 0 c)) f) ∗ ∃ f, Pt cc0_scratch2 (par 2 c) (rws (blk 3 c)) f)) := by
  have hlo : ((m6 : Memref sig .tc .vmem S256x512 .f32).access rectLo).set ⊆ rlo :=
    Finset.Subset.trans (Finset.Subset.refl _) (((View.set_slice_whole cc0_scratch0 rectLo).trans set_rlo).subset)
  rw [k0_part10_eq_skeleton]
  unfold k0_part10_skel
  simp only [semSignalWord, semWaitWord, Prog.lift, Prog.bind_op, Prog.bind_ret, Prog.pure_eq_ret]
  iintro ⟨#HR, #Hlev, HO, T5, T8, T13, C1, A1, H0, H3⟩
  iapply (wp_load_rect 𝒱₀ (c : Thread nD τ) none Set.univ (m := m6) (hlo)) $$ H0
  iintro H0
  iapply (wp_load 𝒱₀ (c : Thread nD τ) none Set.univ (m := m9) (Finset.subset_univ _)) $$ H3
  iintro H3
  iapply (wp_load_rect 𝒱₀ (c : Thread nD τ) none Set.univ (m := m6) (hlo)) $$ H0
  iintro H0
  iapply (wp_store 𝒱₀ (c : Thread nD τ) none Set.univ (m := m6) (r := rectLo) (Mk := Finset.univ) (hlo)) $$ H0
  iintro H0
  rw [read_m9]
  ihave H0 := (show ((View.loc (c : Thread nD τ) (m6.access rectLo)) ↦[rlo]{fullShare} (m6.access rectLo).write (Elt F) (acc1 m c)
      (k0_pay18 ((m6.access rectLo).read (Elt F) (acc1 m c)) (up (acc1 m (par 1 c)))) Finset.univ : sProp 𝕄)
    ⊢ Pt cc0_scratch0 c rlo (acc2 m c) from .rfl) $$ H0
  ihave H0 := (lo_split c (acc2 m c)) $$ H0
  icases H0 with ⟨H01, H03, H0⟩
  ihave H3 := (pt_rest (F := F) cc0_scratch3 c (rwb (blk 0 c)) (up (acc1 m (par 1 c)))) $$ H3
  icases H3 with ⟨H3a, H3r⟩
  iapply (step_signal m K c 5 (dev8 c) rfl rfl) $$ [HO T5 H3a]
  · isplitr; · iexact HR
    isplitl [HO]; · iexact HO
    isplitl [T5]; · iexact T5
    iapply (give5 m c)
    iexists _; iexact H3a
  iintro HO
  iapply (step_wait m K c 1 (l := [13, 14, 15]) rfl (wpE_semWait_eq 𝒱₀ (c : Thread nD τ) none Set.univ) rfl (by decide)) $$ [HO C1 A1]
  · isplitr; · iexact HR
    isplitr; · iexact Hlev
    isplitl [HO]; · iexact HO
    isplitl [C1]; · iexact C1
    iexact A1
  rw [rest_at m c 1 (by decide)]
  iintro ⟨HO, A1, P1⟩
  ihave P1 := (show payK m 1 c 0 ⊢ (iprop((∃ f, Pt cc0_scratch2 (par 2 c) (rws (blk 1 c)) f) ∗ (∃ f, Pt cc0_scratch2 (par 2 c) (rws (blk 3 c)) f)) : sProp 𝕄) from .rfl) $$ P1
  icases P1 with ⟨P1, P3⟩
  iapply (send2_spec m K c (l := [14, 15])) $$ [HO T8 T13 H01 P1]
  · isplitr; · iexact HR
    isplitl [HO]; · iexact HO
    isplitl [T8]; · iexact T8
    isplitl [T13]; · iexact T13
    isplitl [H01]; · iexact H01
    iexact P1
  iintro ⟨C5, HO⟩
  iapply (wpc_ret c)
  imodintro
  isplitl [HO]; · iexact HO
  isplitl [A1]; · iexact A1
  isplitl [C5]; · iexact C5
  isplitl [H03]; · iexact H03
  isplitl [H0]; · iexact H0
  isplitl [H3r]; · iexists _; iexact H3r
  iexact P3

/-- The third exchange is added in. -/
theorem part11_spec (a1 a2 : BV) :
    (iprop(records m K ∗ levAts L lv ∗ Owe c [14, 15] ∗ ptok c 9 ∗ ptok c 14 ∗ cr c 10 ∗ pos0 c 10 ∗ cr c 11 ∗ pos0 c 11
      ∗ Pt cc0_scratch0 c (rws (blk 3 c)) (acc2 m c) ∗ Pt cc0_scratch0 c (rws (blk 0 c) ∪ rws (blk 2 c)) (acc2 m c)
      ∗ ∃ f, Pt cc0_scratch2 (par 2 c) (rws (blk 3 c)) f) : sProp 𝕄)
    ⊢ wpc c (k0_part11 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 c a1 a2)
      (fun r => iprop(⌜r = k0_pay20 ((m6.access (rect13 c)).read (Elt F) (acc2h m c)) ((m8.access (rect13 c)).read (Elt F) (acc2 m (par 2 c)))⌝
        ∗ Owe c [15] ∗ cr c 6 ∗ pos1 c 10 ∗ pos1 c 11 ∗ Pt cc0_scratch0 c (rws (blk 0 c) ∪ rws (blk 2 c)) (acc2h m c)
        ∗ (∃ f, Pt cc0_scratch2 c (rws (blk 0 c)) f) ∗ ∃ f, Pt cc0_scratch2 c (rws (blk 2 c)) f)) := by
  have h0 : ((m6 : Memref sig .tc .vmem S256x512 .f32).access (rect12 c)).set ⊆ rws (blk 0 c) ∪ rws (blk 2 c) :=
    (((View.set_slice_whole cc0_scratch0 (rect12 c)).trans (set_rws (off12 c) _)).subset).trans Finset.subset_union_left
  have h2 : ((m6 : Memref sig .tc .vmem S256x512 .f32).access (rect13 c)).set ⊆ rws (blk 0 c) ∪ rws (blk 2 c) :=
    (((View.set_slice_whole cc0_scratch0 (rect13 c)).trans (set_rws (off13 c) _)).subset).trans Finset.subset_union_right
  have h0' : ((m8 : Memref sig .tc .vmem S256x512 .f32).access (rect12 c)).set ⊆ rws (blk 0 c) :=
    ((View.set_slice_whole cc0_scratch2 (rect12 c)).trans (set_rws (off12 c) _)).subset
  have h2' : ((m8 : Memref sig .tc .vmem S256x512 .f32).access (rect13 c)).set ⊆ rws (blk 2 c) :=
    ((View.set_slice_whole cc0_scratch2 (rect13 c)).trans (set_rws (off13 c) _)).subset
  rw [k0_part11_eq_skeleton]
  unfold k0_part11_skel
  simp only [semSignalWord, semWaitWord, Prog.lift, Prog.bind_op, Prog.bind_ret, Prog.pure_eq_ret]
  iintro ⟨#HR, #Hlev, HO, T9, T14, C10, A10, C11, A11, H03, H0, P3⟩
  iapply (send3_spec m K c (l := [15])) $$ [HO T9 T14 H03 P3]
  · isplitr; · iexact HR
    isplitl [HO]; · iexact HO
    isplitl [T9]; · iexact T9
    isplitl [T14]; · iexact T14
    isplitl [H03]; · iexact H03
    iexact P3
  iintro ⟨C6, HO⟩
  iapply (step_wait m K c 10 (l := [15]) (congrArg SemLoc.dma sem_recv2) (wpE_waitDma2_eq 𝒱₀ (c : Thread nD τ) none Set.univ) (credit32 _) (by decide)) $$ [HO C10 A10]
  · isplitr; · iexact HR
    isplitr; · iexact Hlev
    isplitl [HO]; · iexact HO
    isplitl [C10]; · iexact C10
    iexact A10
  rw [rest_at m c 10 (by decide)]
  iintro ⟨HO, A10, HL0⟩
  iapply (step_wait m K c 11 (l := [15]) (congrArg SemLoc.dma sem_recv3) (wpE_waitDma2_eq 𝒱₀ (c : Thread nD τ) none Set.univ) (credit32 _) (by decide)) $$ [HO C11 A11]
  · isplitr; · iexact HR
    isplitr; · iexact Hlev
    isplitl [HO]; · iexact HO
    isplitl [C11]; · iexact C11
    iexact A11
  rw [rest_at m c 11 (by decide)]
  iintro ⟨HO, A11, HL2⟩
  ihave HL0 := (show payK m 10 c 0 ⊢ (Pt cc0_scratch2 c (rws (blk 0 c)) (acc2 m (par 2 c)) : sProp 𝕄) from .rfl) $$ HL0
  ihave HL2 := (show payK m 11 c 0 ⊢ (Pt cc0_scratch2 c (rws (blk 2 c)) (acc2 m (par 2 c)) : sProp 𝕄) from .rfl) $$ HL2
  iapply (wp_load_rect 𝒱₀ (c : Thread nD τ) none Set.univ (m := m6) (h0)) $$ H0
  iintro H0
  iapply (wp_load_rect 𝒱₀ (c : Thread nD τ) none Set.univ (m := m8) (h0')) $$ HL0
  iintro HL0
  iapply (wp_load_rect 𝒱₀ (c : Thread nD τ) none Set.univ (m := m6) (h0)) $$ H0
  iintro H0
  iapply (wp_store 𝒱₀ (c : Thread nD τ) none Set.univ (m := m6) (r := rect12 c) (Mk := Finset.univ) (h0)) $$ H0
  iintro H0
  ihave H0 := (show ((View.loc (c : Thread nD τ) (m6.access (rect12 c))) ↦[rws (blk 0 c) ∪ rws (blk 2 c)]{fullShare} (m6.access (rect12 c)).write (Elt F) (acc2 m c)
      (k0_pay19 ((m6.access (rect12 c)).read (Elt F) (acc2 m c)) ((m8.access (rect12 c)).read (Elt F) (acc2 m (par 2 c)))) Finset.univ : sProp 𝕄)
    ⊢ Pt cc0_scratch0 c (rws (blk 0 c) ∪ rws (blk 2 c)) (acc2h m c) from .rfl) $$ H0
  iapply (wp_load_rect 𝒱₀ (c : Thread nD τ) none Set.univ (m := m6) (h2)) $$ H0
  iintro H0
  iapply (wp_load_rect 𝒱₀ (c : Thread nD τ) none Set.univ (m := m8) (h2')) $$ HL2
  iintro HL2
  iapply (wp_load_rect 𝒱₀ (c : Thread nD τ) none Set.univ (m := m6) (h2)) $$ H0
  iintro H0
  iapply (wpc_ret c)
  imodintro
  isplitr
  · ipureintro; rfl
  isplitl [HO]; · iexact HO
  isplitl [C6]; · iexact C6
  isplitl [A10]; · iexact A10
  isplitl [A11]; · iexact A11
  isplitl [H0]; · iexact H0
  isplitl [HL0]; · iexists _; iexact HL0
  iexists _; iexact HL2

/-- The fourth exchange, and the result block. -/
theorem part12_spec (a1 a2 : BV) :
    (iprop(records m K ∗ levAts L lv ∗ Owe c [15] ∗ ptok c 10 ∗ ptok c 15 ∗ cr c 2 ∗ pos0 c 2 ∗ cr c 12 ∗ pos0 c 12
      ∗ Pt cc0_scratch0 c (rws (blk 0 c) ∪ rws (blk 2 c)) (acc2h m c) ∗ ∃ f, Pt cc0_stg5_0 c Finset.univ f) : sProp 𝕄)
    ⊢ wpc c (k0_part12 (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7 c a1 a2 (pShared c (xC m c) (sC m c))
        (k0_pay20 ((m6.access (rect13 c)).read (Elt F) (acc2h m c)) ((m8.access (rect13 c)).read (Elt F) (acc2 m (par 2 c)))))
      (fun _ => iprop(Owe c [] ∗ cr c 7 ∗ pos1 c 2 ∗ pos1 c 12 ∗ (∃ f, Pt cc0_scratch0 c (rws (blk 0 c)) f)
        ∗ (∃ f, Pt cc0_scratch3 c (rwb (blk 0 c)) f) ∗ Pt cc0_stg5_0 c Finset.univ (outV m c))) := by
  have h0 : ((m6 : Memref sig .tc .vmem S256x512 .f32).access (rect12 c)).set ⊆ rws (blk 0 c) :=
    (((View.set_slice_whole cc0_scratch0 (rect12 c)).trans (set_rws (off12 c) _)).subset)
  have h2 : ((m6 : Memref sig .tc .vmem S256x512 .f32).access (rect13 c)).set ⊆ rws (blk 0 c) ∪ rws (blk 2 c) :=
    (((View.set_slice_whole cc0_scratch0 (rect13 c)).trans (set_rws (off13 c) _)).subset).trans Finset.subset_union_right
  have h5 : ((m9 : Memref sig .tc .vmem S128x512 .f32).access (rect15 c)).set ⊆ rwb (blk 0 c) :=
    ((View.set_slice_whole cc0_scratch3 (rect15 c)).trans (set_rwb (off15 c) _)).subset
  rw [k0_part12_eq_skeleton]
  unfold k0_part12_skel
  simp only [semSignalWord, semWaitWord, Prog.lift, Prog.bind_op, Prog.bind_ret, Prog.pure_eq_ret]
  iintro ⟨#HR, #Hlev, HO, T10, T15, C2, A2, C12, A12, H0, %fo, H5⟩
  iapply (wp_store 𝒱₀ (c : Thread nD τ) none Set.univ (m := m6) (r := rect13 c) (Mk := Finset.univ) (h2)) $$ H0
  iintro H0
  ihave H0 := (show ((View.loc (c : Thread nD τ) (m6.access (rect13 c))) ↦[rws (blk 0 c) ∪ rws (blk 2 c)]{fullShare} (m6.access (rect13 c)).write (Elt F) (acc2h m c)
      (k0_pay21 (k0_pay20 ((m6.access (rect13 c)).read (Elt F) (acc2h m c)) ((m8.access (rect13 c)).read (Elt F) (acc2 m (par 2 c))))) Finset.univ : sProp 𝕄)
    ⊢ Pt cc0_scratch0 c (rws (blk 0 c) ∪ rws (blk 2 c)) (acc3 m c) from .rfl) $$ H0
  ihave H0 := (pt_union (F := F) cc0_scratch0 c (disj_pieces c).1 (acc3 m c)) $$ H0
  icases H0 with ⟨H00, H02⟩
  iapply (step_wait m K c 2 (l := [15]) rfl (wpE_semWait_eq 𝒱₀ (c : Thread nD τ) none Set.univ) rfl (by decide)) $$ [HO C2 A2]
  · isplitr; · iexact HR
    isplitr; · iexact Hlev
    isplitl [HO]; · iexact HO
    isplitl [C2]; · iexact C2
    iexact A2
  rw [rest_at m c 2 (by decide)]
  iintro ⟨HO, A2, P2⟩
  ihave P2 := (show payK m 2 c 0 ⊢ (iprop(∃ f, Pt cc0_scratch3 (par 3 c) (rwb (blk 2 c)) f) : sProp 𝕄) from .rfl) $$ P2
  iapply (send4_spec m K c (l := [])) $$ [HO T10 T15 H02 P2]
  · isplitr; · iexact HR
    isplitl [HO]; · iexact HO
    isplitl [T10]; · iexact T10
    isplitl [T15]; · iexact T15
    isplitl [H02]; · iexact H02
    iexact P2
  iintro ⟨C7, HO⟩
  iapply (step_wait m K c 12 (l := []) (congrArg SemLoc.dma sem_recv4) (wpE_waitDma2_eq 𝒱₀ (c : Thread nD τ) none Set.univ) (credit32 _) (by decide)) $$ [HO C12 A12]
  · isplitr; · iexact HR
    isplitr; · iexact Hlev
    isplitl [HO]; · iexact HO
    isplitl [C12]; · iexact C12
    iexact A12
  rw [rest_at m c 12 (by decide)]
  iintro ⟨HO, A12, HL⟩
  ihave HL := (show payK m 12 c 0 ⊢ (Pt cc0_scratch3 c (rwb (blk 0 c)) (low (acc3 m (par 3 c))) : sProp 𝕄) from .rfl) $$ HL
  iapply (wp_load_rect 𝒱₀ (c : Thread nD τ) none Set.univ (m := m6) (h0)) $$ H00
  iintro H00
  iapply (wp_load_rect 𝒱₀ (c : Thread nD τ) none Set.univ (m := m9) (h5)) $$ HL
  iintro HL
  iapply (wp_load 𝒱₀ (c : Thread nD τ) none Set.univ (m := m5) (Finset.subset_univ _)) $$ H5
  iintro H5
  iapply (wp_store 𝒱₀ (c : Thread nD τ) none Set.univ (m := m5) (r := rectAllO) (Mk := Finset.univ) (Finset.subset_univ _)) $$ H5
  iintro H5
  rw [write_m5]
  iapply (wpc_ret c)
  imodintro
  isplitl [HO]; · iexact HO
  isplitl [C7]; · iexact C7
  isplitl [A2]; · iexact A2
  isplitl [A12]; · iexact A12
  isplitl [H00]; · iexists _; iexact H00
  isplitl [HL]; · iexists _; iexact HL
  iexact H5

end Cert.RunKernelIdeal

end
-- ==== Proof.RunKernelIdeal.Body.lean ====
module

public import proofs.«01_k».proof.Proof.RunKernelIdeal.Rounds

/-! # The whole body -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The promises a device starts with, one by one. -/
theorem crds_split : (bigSep Finset.univ fun k => (crd c k : sProp 𝕄))
    ⊢ iprop(cr c 0 ∗ cr c 1 ∗ cr c 2 ∗ cr c 8 ∗ cr c 9 ∗ cr c 10 ∗ cr c 11 ∗ cr c 12) := by
  rw [bigSep_fin13]
  show (iprop(cr c 0 ∗ cr c 1 ∗ cr c 2 ∗ crd c 3 ∗ crd c 4 ∗ crd c 5 ∗ crd c 6 ∗ crd c 7 ∗ cr c 8 ∗ cr c 9 ∗ cr c 10 ∗ cr c 11 ∗ cr c 12) : sProp 𝕄) ⊢ _
  iintro ⟨H0, H1, H2, -, -, -, -, -, H8, H9, H10, H11, H12⟩
  isplitl [H0]; · iexact H0
  isplitl [H1]; · iexact H1
  isplitl [H2]; · iexact H2
  isplitl [H8]; · iexact H8
  isplitl [H9]; · iexact H9
  isplitl [H10]; · iexact H10
  isplitl [H11]; · iexact H11
  iexact H12

/-- The five input blocks, staged. -/
def ins (c : Dev nD) : sProp 𝕄 := iprop(Pt cc0_stg0_0 c Finset.univ (xC m c) ∗ Pt cc0_stg1_0 c Finset.univ (rC m c) ∗ Pt cc0_stg2_0 c Finset.univ (iC m c)
  ∗ Pt cc0_stg3_0 c Finset.univ (eC m c) ∗ Pt cc0_stg4_0 c Finset.univ (sC m c))
/-- The four scratch arrays, whatever they hold. -/
def scr (c : Dev nD) : sProp 𝕄 := iprop((∃ f, Pt cc0_scratch0 c Finset.univ f) ∗ (∃ f, Pt cc0_scratch1 c Finset.univ f)
  ∗ (∃ f, Pt cc0_scratch2 c Finset.univ f) ∗ ∃ f, Pt cc0_scratch3 c Finset.univ f)
/-- The thirteen semaphores at zero. -/
def zeros (c : Dev nD) : sProp 𝕄 := bigSep Finset.univ fun k : Fin 13 => semVal (kcell (c, k)) 0

/-- All thirteen rounds over: the semaphores stand at zero. -/
theorem close_all : (iprop(records m K ∗ bigSep Finset.univ fun k : Fin 13 => pos1 c k) : sProp 𝕄) ⊢ |={Set.univ}=> zeros c := by
  have h : (iprop(records m K ∗ bigSep Finset.univ fun k : Fin 13 => pos1 c k) : sProp 𝕄)
      ⊢ bigSep Finset.univ fun k : Fin 13 => iprop(|={Set.univ}=> semVal (kcell (c, k)) 0) :=
    (sep_mono_left (BI.bigSep_of_persistent Finset.univ (records m K))).trans (by
      rw [← bigSep_sep']; exact bigSep_mono fun k _ => step_close m K c k)
  exact h.trans (bigSep_fupd _ _)

set_option maxHeartbeats 1000000 in
/-- The body, part by part. -/
theorem body_run :
    (iprop(records m K ∗ levAts L lv ∗ (bigSep Finset.univ fun k => pos0 c k) ∗ (bigSep Finset.univ fun j => ptok c j) ∗ (bigSep Finset.univ fun k => crd c k)
      ∗ Owe c allPay ∗ scr c ∗ ins m c ∗ ∃ f, Pt cc0_stg5_0 c Finset.univ f) : sProp 𝕄)
    ⊢ wpc c (cc0_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7) (fun _ => iprop(zeros c ∗ scr c ∗ Owe c [] ∗ ins m c ∗ Pt cc0_stg5_0 c Finset.univ (outV m c))) := by
  rw [cc0_body_eq_skeleton]
  unfold cc0_body_skel
  rw [k0_part13_eq_skeleton]
  unfold k0_part13_skel
  simp only [Prog.pure_eq_ret]
  unfold wpc scr ins
  simp only [wp_bind]
  rw [bigSep_fin13, bigSep_fin16]
  iintro ⟨#HR, #Hlev, ⟨P0, P1, P2, P3, P4, P5, P6, P7, P8, P9, P10, P11, P12⟩, ⟨T0, T1, T2, T3, T4, T5, T6, T7, T8, T9, T10, T11, T12, T13, T14, T15⟩, HC, HO, ⟨S0, S1, S2, S3⟩, ⟨HX, HW, HI, HE, HS⟩, H5⟩
  ihave HC := (crds_split (F := F) c) $$ HC
  icases HC with ⟨C0, C1, C2, C8, C9, C10, C11, C12⟩
  ihave H := (part1_spec (F := F) c) $$ []
  · iempintro
  iapply (wp_wand frame _ Set.univ) $$ H
  iintro %r %h1
  obtain ⟨v19, v29, v30, v31, v33, v35, v37, rfl⟩ := h1
  dsimp only
  ihave H := (part2_spec m K c _ _ _ _ _ _ _) $$ [HO T0 T1 T2 T3 C0 P0 S2 S3]
  · isplitr; · iexact HR
    isplitr; · iexact Hlev
    isplitl [HO]; · iexact HO
    isplitl [T0]; · iexact T0
    isplitl [T1]; · iexact T1
    isplitl [T2]; · iexact T2
    isplitl [T3]; · iexact T3
    isplitl [C0]; · iexact C0
    isplitl [P0]; · iexact P0
    isplitl [S2]; · iexact S2
    iexact S3
  iapply (wp_wand frame _ Set.univ) $$ H
  iintro %r ⟨%h2, HO, P0, D2, D3⟩
  obtain ⟨v38, v41, v52, v53, v54, v55, v57, v59, v61, v63, rfl⟩ := h2
  dsimp only
  ihave H := (part3_spec c (xC m c) _ _ _ _ _ _ _ _ _ _) $$ [HX]
  · iexact HX
  iapply (wp_wand frame _ Set.univ) $$ H
  iintro %r ⟨%h3, HX⟩
  obtain ⟨v64, v65, v66, v67, v68, v69, v70, v71, v100, rfl⟩ := h3
  dsimp only
  ihave H := (part4_spec c (xC m c) (rC m c) (iC m c) _ _ _ _ _ _ _ _ _) $$ [HX HW HI]
  · isplitl [HX]; · iexact HX
    isplitl [HW]; · iexact HW
    iexact HI
  iapply (wp_wand frame _ Set.univ) $$ H
  iintro %r ⟨%h4, HX, HW, HI⟩
  subst h4
  dsimp only
  ihave H := (part5_spec c (xC m c) (rC m c) (iC m c) (eC m c)) $$ [HE S1]
  · isplitl [HE]; · iexact HE
    iexact S1
  iapply (wp_wand frame _ Set.univ) $$ H
  iintro %r ⟨HE, S1⟩
  ihave H := (part6_spec m K c (xC m c) _ _ _ _ _ _ _ _ _ _) $$ [HO T6 T11 S1 D2 HX]
  · isplitr; · iexact HR
    isplitl [HO]; · iexact HO
    isplitl [T6]; · iexact T6
    isplitl [T11]; · iexact T11
    isplitl [S1]; · iexact S1
    isplitl [D2]; · iexact D2
    iexact HX
  iapply (wp_wand frame _ Set.univ) $$ H
  iintro %r ⟨%h6, C3, HO, HX⟩
  subst h6
  ihave H := (part7_spec c (xC m c) (rC m c) (iC m c) _ _ _ _ _ _ _ _) $$ [HW HI]
  · isplitl [HW]; · iexact HW
    iexact HI
  iapply (wp_wand frame _ Set.univ) $$ H
  iintro %r ⟨%h7, HW, HI⟩
  subst h7
  dsimp only
  ihave H := (part8_spec c (xC m c) (rC m c) (iC m c) (eC m c) (sC m c) _) $$ [HX HE HS]
  · isplitl [HX]; · iexact HX
    isplitl [HE]; · iexact HE
    iexact HS
  iapply (wp_wand frame _ Set.univ) $$ H
  iintro %r ⟨%h8, HX, HE, HS⟩
  subst h8
  dsimp only
  ihave H := (part9_spec m K c _ _ _) $$ [HO T4 T7 T12 C8 P8 C9 P9 S0 D3]
  · isplitr; · iexact HR
    isplitr; · iexact Hlev
    isplitl [HO]; · iexact HO
    isplitl [T4]; · iexact T4
    isplitl [T7]; · iexact T7
    isplitl [T12]; · iexact T12
    isplitl [C8]; · iexact C8
    isplitl [P8]; · iexact P8
    isplitl [C9]; · iexact C9
    isplitl [P9]; · iexact P9
    isplitl [S0]; · iexact S0
    iexact D3
  iapply (wp_wand frame _ Set.univ) $$ H
  iintro %r ⟨HO, P8, P9, C4, S0, S3, S2⟩
  ihave H := (part10_spec m K c _ _ _) $$ [HO T5 T8 T13 C1 P1 S0 S3]
  · isplitr; · iexact HR
    isplitr; · iexact Hlev
    isplitl [HO]; · iexact HO
    isplitl [T5]; · iexact T5
    isplitl [T8]; · iexact T8
    isplitl [T13]; · iexact T13
    isplitl [C1]; · iexact C1
    isplitl [P1]; · iexact P1
    isplitl [S0]; · iexact S0
    iexact S3
  iapply (wp_wand frame _ Set.univ) $$ H
  iintro %r ⟨HO, P1, C5, S03, S0, S3, D2⟩
  ihave H := (part11_spec m K c _ _) $$ [HO T9 T14 C10 P10 C11 P11 S03 S0 D2]
  · isplitr; · iexact HR
    isplitr; · iexact Hlev
    isplitl [HO]; · iexact HO
    isplitl [T9]; · iexact T9
    isplitl [T14]; · iexact T14
    isplitl [C10]; · iexact C10
    isplitl [P10]; · iexact P10
    isplitl [C11]; · iexact C11
    isplitl [P11]; · iexact P11
    isplitl [S03]; · iexact S03
    isplitl [S0]; · iexact S0
    iexact D2
  iapply (wp_wand frame _ Set.univ) $$ H
  iintro %r ⟨%h11, HO, C6, P10, P11, S0, S20, S22⟩
  subst h11
  ihave H := (part12_spec m K c _ _) $$ [HO T10 T15 C2 P2 C12 P12 S0 H5]
  · isplitr; · iexact HR
    isplitr; · iexact Hlev
    isplitl [HO]; · iexact HO
    isplitl [T10]; · iexact T10
    isplitl [T15]; · iexact T15
    isplitl [C2]; · iexact C2
    isplitl [P2]; · iexact P2
    isplitl [C12]; · iexact C12
    isplitl [P12]; · iexact P12
    isplitl [S0]; · iexact S0
    iexact H5
  iapply (wp_wand frame _ Set.univ) $$ H
  iintro %r ⟨HO, C7, P2, P12, S00, S30, H5⟩
  iapply (step_wait m K c 3 (l := []) (congrArg SemLoc.dma sem_send0) (wpE_waitDma2_eq 𝒱₀ (c : Thread nD τ) none Set.univ) (credit256 _) (by decide)) $$ [HO C3 P3]
  · isplitr; · iexact HR
    isplitr; · iexact Hlev
    isplitl [HO]; · iexact HO
    isplitl [C3]; · iexact C3
    iexact P3
  rw [rest_at m c 3 (by decide)]
  iintro ⟨HO, P3, Q3⟩
  iapply (wpc_ret c)
  imodintro
  iapply (step_wait m K c 4 (l := []) (congrArg SemLoc.dma sem_send1) (wpE_waitDma2_eq 𝒱₀ (c : Thread nD τ) none Set.univ) (credit128 _) (by decide)) $$ [HO C4 P4]
  · isplitr; · iexact HR
    isplitr; · iexact Hlev
    isplitl [HO]; · iexact HO
    isplitl [C4]; · iexact C4
    iexact P4
  rw [rest_at m c 4 (by decide)]
  iintro ⟨HO, P4, Q4⟩
  iapply (wpc_ret c)
  imodintro
  iapply (step_wait m K c 5 (l := []) (congrArg SemLoc.dma sem_send2) (wpE_waitDma2_eq 𝒱₀ (c : Thread nD τ) none Set.univ) (credit32 _) (by decide)) $$ [HO C5 P5]
  · isplitr; · iexact HR
    isplitr; · iexact Hlev
    isplitl [HO]; · iexact HO
    isplitl [C5]; · iexact C5
    iexact P5
  rw [rest_at m c 5 (by decide)]
  iintro ⟨HO, P5, Q5⟩
  iapply (wpc_ret c)
  imodintro
  iapply (step_wait m K c 6 (l := []) (congrArg SemLoc.dma sem_send3) (wpE_waitDma2_eq 𝒱₀ (c : Thread nD τ) none Set.univ) (credit32 _) (by decide)) $$ [HO C6 P6]
  · isplitr; · iexact HR
    isplitr; · iexact Hlev
    isplitl [HO]; · iexact HO
    isplitl [C6]; · iexact C6
    iexact P6
  rw [rest_at m c 6 (by decide)]
  iintro ⟨HO, P6, Q6⟩
  iapply (wpc_ret c)
  imodintro
  iapply (step_wait m K c 7 (l := []) (congrArg SemLoc.dma sem_send4) (wpE_waitDma2_eq 𝒱₀ (c : Thread nD τ) none Set.univ) (credit32 _) (by decide)) $$ [HO C7 P7]
  · isplitr; · iexact HR
    isplitr; · iexact Hlev
    isplitl [HO]; · iexact HO
    isplitl [C7]; · iexact C7
    iexact P7
  rw [rest_at m c 7 (by decide)]
  iintro ⟨HO, P7, Q7⟩
  iapply (wpc_ret c)
  imodintro
  iapply (wpc_ret c)
  imodintro
  iapply (wpc_ret c)
  ihave Q3 := (show payK m 3 c 0 ⊢ (iprop(∃ f, Pt cc0_scratch1 c Finset.univ f) : sProp 𝕄) from .rfl) $$ Q3
  ihave Q4 := (show payK m 4 c 0 ⊢ (iprop(∃ f, Pt cc0_scratch0 c rhi f) : sProp 𝕄) from .rfl) $$ Q4
  ihave Q5 := (show payK m 5 c 0 ⊢ (iprop(∃ f, Pt cc0_scratch0 c (rws (blk 1 c)) f) : sProp 𝕄) from .rfl) $$ Q5
  ihave Q6 := (show payK m 6 c 0 ⊢ (iprop(∃ f, Pt cc0_scratch0 c (rws (blk 3 c)) f) : sProp 𝕄) from .rfl) $$ Q6
  ihave Q7 := (show payK m 7 c 0 ⊢ (iprop(∃ f, Pt cc0_scratch0 c (rws (blk 2 c)) f) : sProp 𝕄) from .rfl) $$ Q7
  ihave A := (acc_join (F := F) c) $$ [Q4 Q5 Q6 S00 Q7]
  · isplitl [Q4]; · iexact Q4
    isplitl [Q5]; · iexact Q5
    isplitl [Q6]; · iexact Q6
    isplitl [S00]; · iexact S00
    iexact Q7
  ihave B := (pt_join (F := F) cc0_scratch2 c (disj_pieces c).1) $$ [S20 S22]
  · isplitl [S20]; · iexact S20
    iexact S22
  ihave B := (pt_rest_join (F := F) cc0_scratch2 c (rws (blk 0 c) ∪ rws (blk 2 c))) $$ [B S2]
  · isplitl [B]; · iexact B
    iexact S2
  ihave D := (pt_rest_join (F := F) cc0_scratch3 c (rwb (blk 0 c))) $$ [S30 S3]
  · isplitl [S30]; · iexact S30
    iexact S3
  imod (close_all m K c) $$ [P0 P1 P2 P3 P4 P5 P6 P7 P8 P9 P10 P11 P12] with Z
  · isplitr; · iexact HR
    rw [bigSep_fin13]
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    iexact P12
  imodintro
  isplitl [Z]; · iexact Z
  isplitl [A Q3 B D]
  · isplitl [A]; · iexact A
    isplitl [Q3]; · iexact Q3
    isplitl [B]; · iexact B
    iexact D
  isplitl [HO]; · iexact HO
  isplitl [HX HW HI HE HS]
  · isplitl [HX]; · iexact HX
    isplitl [HW]; · iexact HW
    isplitl [HI]; · iexact HI
    isplitl [HE]; · iexact HE
    iexact HS
  iexact H5

end Cert.RunKernelIdeal

end
-- ==== Proof.RunKernelIdeal.Setup.lean ====
module

public import proofs.«01_k».proof.Proof.RunKernelIdeal.Body
public import proofs.«01_k».proof.Proof.Gen.KernelIdeal.Launch
public import Idealize.ShloMosaic.Lib.Pipeline.Launch
public import Idealize.ShloMosaic.Lib.Pipeline.CollectiveSegs

/-! # What the launch deals out -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of the launch -/

/-- The kernel's own twelve semaphores: all but the barrier. -/
abbrev osem (i : Fin 12) : SemLoc sig := csem i.succ

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0
      ∗ semVal (kcell (c, 11)) 0 ∗ semVal (kcell (c, 12)) 0) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl
/-- The barrier and the twelve others are the thirteen. -/
theorem sems0_eq (c : Dev nD) :
    (iprop(unscopedSems0 c ∗ Pipeline.ownSems0 (Ix := Unit) (Name := ℕ) (U := UU) (Lvl := ℕ) (Val := Elt F) (τ := τ) osem c) : sProp 𝕄) = zeros c := by
  unfold zeros
  rw [ownSems0_eq, unscopedSems0_eq, bigSep_fin13]

/-! ## The rounds of all devices -/

def ringCells : Finset (GSem nD τ sig) := Finset.univ.map ⟨kcell, kcell_injective⟩

/-- Payment `j` as the paid device's semaphore counts it. -/
def tokOf (cj : Dev nD × Fin 16) : GSem nD τ sig × ℕ × Fin 4 := (kcell (cj.1, kk cj.2), 0, dd cj.2)
theorem tokOf_injective : Function.Injective tokOf := by
  rintro ⟨c, j⟩ ⟨c', j'⟩ h
  have h1 := kcell_injective (congrArg Prod.fst h)
  have h2 : dd j = dd j' := congrArg (fun x : GSem nD τ sig × ℕ × Fin 4 => x.2.2) h
  have h3 : kk j = kk j' := congrArg Prod.snd h1
  rw [kk_dd_inj j j' h3 h2, show c = c' from congrArg Prod.fst h1]
def ringToks : Finset (GSem nD τ sig × ℕ × Fin 4) := Finset.univ.map ⟨tokOf, tokOf_injective⟩

def u₀ : UU := (initOf (Pipeline.cells cfgs cellOf_inj) (Pipeline.launchToks cfgs cellOf_inj), initOf ringCells ringToks)

/-- The payments onto device `c`'s semaphores. -/
def toks (c : Dev nD) : sProp 𝕄 := bigSep Finset.univ fun j : Fin 16 => dutyTok ER (kcell (c, kk j)) 0 (dd j)

/-- What a device is dealt before the semaphores are shared, -/
def G (c : Dev nD) : sProp 𝕄 :=
  iprop((bigSep Finset.univ fun k : Fin 13 => roundState ER (ringRd m) (kcell (c, k)) 0)
    ∗ (bigSep Finset.univ fun k : Fin 13 => iprop(pos0 c k ∗ reached ER (kcell (c, k)) 0)) ∗ toks c)
/-- and after. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(pos0 c k ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop(zeros c ∗ bigSep Finset.univ fun k : Fin 13 => roundState ER (ringRd m) (kcell (c, k)) 0)
      ⊢ (|={Set.univ}=> bigSep Finset.univ fun k => iprop(∃ κ : ℕ, cellInv ER (ringRd m) κ (kcell (c, k))) : sProp 𝕄) from by
        unfold zeros
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Which payment a device makes onto which device. -/
def around : Dev nD × Fin 16 ≃ Dev nD × Fin 16 where
  toFun x := (tE x.2 x.1, x.2)
  invFun x := ((tE x.2).symm x.1, x.2)
  left_inv x := by simp
  right_inv x := by simp

/-- The right to a payment goes from the device paid to the device paying. -/
theorem toks_around : (bigSep Finset.univ fun c : Dev nD => (toks c : sProp 𝕄)) = bigSep Finset.univ fun c : Dev nD => bigSep Finset.univ fun j => ptok c j := by
  unfold toks
  rw [← bigSep_univ_prod (fun x : Dev nD × Fin 16 => (dutyTok ER (kcell (x.1, kk x.2)) 0 (dd x.2) : sProp 𝕄)),
    ← bigSep_univ_prod (fun x : Dev nD × Fin 16 => (ptok x.1 x.2 : sProp 𝕄)), bigSep_univ_equiv around]
  rfl

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 13 → ℕ) (c : Dev nD) :
    iprop(records m K ∗ (bigSep Finset.univ fun k => pos0 c k) ∗ bigSep Finset.univ fun j => ptok c j) ⊢ G' m c := by
  unfold G' ghost
  iintro H
  iexists K; iexact H

theorem regroup :
    (bigSep Finset.univ fun c : Dev nD => iprop((bigSep Finset.univ fun k => iprop(∃ κ : ℕ, cellInv ER (ringRd m) κ (kcell (c, k))))
          ∗ (bigSep Finset.univ fun k => iprop(pos0 c k ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (ringRd m) κ (kcell ck))),
    bigSep_congr (s := Finset.univ) (fun (c : Dev nD) _ => bigSep_sep' Finset.univ (fun k : Fin 13 => (pos0 c k : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (ringRd m) κ (kcell ck) : sProp 𝕄))) $$ HI
  icases HK with ⟨%K, #HI⟩
  ihave Htk := (Entails.of_eq (toks_around (F := F))) $$ Htok
  iapply (with_records (R := records m K) fun c _ => ghost_intro m K c)
  isplitr
  · unfold records; isplitl; · iexact HI
    iexact HR
  · rw [bigSep_sep']
    isplitl [Hat]; · iexact Hat
    iexact Htk

/-- The semaphores of all devices come under the schedule at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is promised at the start -/

/-- What all devices together owe one semaphore. -/
theorem sum_oweL (l : List (Fin 16)) (c : Dev nD) (k : Fin 13) :
    (∑ d : Dev nD, oweL d l (kcell (c, k)) ()) = (l.map fun j => if kk j = k then amt k else 0).sum := by
  induction l with
  | nil => exact Finset.sum_const_zero
  | cons j l ih =>
    have h (d : Dev nD) : oweL d (j :: l) (kcell (c, k)) () = oweL d l (kcell (c, k)) () + if d = (tE j).symm c then (if kk j = k then amt k else 0) else 0 := by
      show (oweL d l + tallyAt (kcell (tE j d, kk j)) () (amt (kk j))) (kcell (c, k)) () = _
      rw [Pi.add_apply, Finsupp.add_apply, tallyAt_apply]
      congr 1
      by_cases hd : d = (tE j).symm c
      · subst hd
        rw [if_pos rfl, Equiv.apply_symm_apply]
        by_cases hk : kk j = k
        · subst hk; rw [if_pos ⟨rfl, rfl⟩, if_pos rfl]
        · rw [if_neg (fun h => hk (congrArg Prod.snd (kcell_injective h.1)).symm), if_neg hk]
      · rw [if_neg (fun h => hd ((Equiv.symm_apply_eq _).mpr (congrArg Prod.fst (kcell_injective h.1))).symm), if_neg hd]
    rw [Finset.sum_congr rfl fun d _ => h d, Finset.sum_add_distrib, ih, Finset.sum_ite_eq' Finset.univ, if_pos (Finset.mem_univ _),
      List.map_cons, List.sum_cons, add_comm]

theorem sum_prm (k : Fin 13) : (allPay.map fun j => if kk j = k then amt k else 0).sum = prm k := by
  fin_cases k <;> simp [allPay, kk, prm, tot, amt]

theorem launch_at (c : Dev nD) (k : Fin 13) :
    tallyOn (kcell (c, k)) (launchCredit (Pipeline.owing O₀) 0 (kcell (c, k))) = (tallyAt (kcell (c, k)) () (prm k) : CellTallies nD τ sig Unit) := by
  unfold tallyAt; refine congrArg _ (Finsupp.ext fun u => ?_); cases u
  rw [show kcell (c, k) = ((c : Thread nD τ), csem k) from rfl, Pipeline.launchCredit_owing, Finsupp.single_eq_same]
  exact (sum_oweL allPay c k).trans (sum_prm k)

theorem csem_injective : Function.Injective csem := fun a b h => Option.some.inj (by rw [← idx_csem a, ← idx_csem b, h])

theorem creds (c : Dev nD) : (Pipeline.launchCred O₀ c : sProp 𝕄) ⊢ bigSep Finset.univ fun k => crd c k := by
  unfold Pipeline.launchCred
  refine (bigSep_subset (Finset.subset_univ (Finset.univ.map ⟨csem, csem_injective⟩))).trans ?_
  rw [bigSep_map]
  exact bigSep_mono fun k _ => Entails.of_eq (congrArg cred (launch_at c k))

end Cert.RunKernelIdeal

end
-- ==== Proof.RunKernelIdeal.Launch.lean ====
module

public import proofs.«01_k».proof.Proof.RunKernelIdeal.Setup

/-! # The launch -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the body, -/
def Φ₀ (c : Dev nD) : sProp 𝕄 := iprop(start m c ∗ scr c)
/-- and after it. -/
def Φ₁ (c : Dev nD) : sProp 𝕄 := iprop(zeros c ∗ scr c)

/-- What the run's one step does to the staged blocks. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => rC m c
    | ⟨2, _⟩ => iC m c
    | ⟨3, _⟩ => eC m c
    | ⟨4, _⟩ => sC m c
    | ⟨5, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

/-- A staged block, whole, with contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem stg_out (c : Dev nD) (b : Ref sig .tc) (X : b.ty.Contents (Elt F)) : (Pt b c Finset.univ X : sProp 𝕄) ⊢ stg c b X := by
  unfold stg
  iintro H
  iexists X
  isplitr; · (ipureintro; rfl)
  iexact H
theorem stg_in (c : Dev nD) (b : Ref sig .tc) {X Y : b.ty.Contents (Elt F)} (h : X = Y) : (stg c b X : sProp 𝕄) ⊢ Pt b c Finset.univ Y := by
  unfold stg
  iintro ⟨%f, %hf, H⟩
  subst hf h
  iexact H

theorem fetch_0 (t : Fin cfg0.N) : (cfg0.win (0 : Fin 6)).fetch t = true := by rw [fin_N t]; rfl
theorem before_0 (c : Dev nD) (d) : (dats m ρ 0 c).before (0 : Fin 6) t₀ d = xC m c := by
  unfold Dat.before; rw [if_pos (fetch_0 t₀)]; rfl

theorem fetch_1 (t : Fin cfg0.N) : (cfg0.win (1 : Fin 6)).fetch t = true := by rw [fin_N t]; rfl
theorem before_1 (c : Dev nD) (d) : (dats m ρ 0 c).before (1 : Fin 6) t₀ d = rC m c := by
  unfold Dat.before; rw [if_pos (fetch_1 t₀)]; rfl

theorem fetch_2 (t : Fin cfg0.N) : (cfg0.win (2 : Fin 6)).fetch t = true := by rw [fin_N t]; rfl
theorem before_2 (c : Dev nD) (d) : (dats m ρ 0 c).before (2 : Fin 6) t₀ d = iC m c := by
  unfold Dat.before; rw [if_pos (fetch_2 t₀)]; rfl

theorem fetch_3 (t : Fin cfg0.N) : (cfg0.win (3 : Fin 6)).fetch t = true := by rw [fin_N t]; rfl
theorem before_3 (c : Dev nD) (d) : (dats m ρ 0 c).before (3 : Fin 6) t₀ d = eC m c := by
  unfold Dat.before; rw [if_pos (fetch_3 t₀)]; rfl

theorem fetch_4 (t : Fin cfg0.N) : (cfg0.win (4 : Fin 6)).fetch t = true := by rw [fin_N t]; rfl
theorem before_4 (c : Dev nD) (d) : (dats m ρ 0 c).before (4 : Fin 6) t₀ d = sC m c := by
  unfold Dat.before; rw [if_pos (fetch_4 t₀)]; rfl

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
set_option maxRecDepth 4000 in
def bodyPost (c : Dev nD) : sProp 𝕄 :=
  iprop(Φ₁ c ∗ (dats m ρ 0 c).owesAt () t₀.succ
    ∗ stg c cc0_stg0_0 (xC m c)
    ∗ stg c cc0_stg1_0 (rC m c)
    ∗ stg c cc0_stg2_0 (iC m c)
    ∗ stg c cc0_stg3_0 (eC m c)
    ∗ stg c cc0_stg4_0 (sC m c)
    ∗ stg c cc0_stg5_0 (outV m c))

set_option maxRecDepth 4000 in
theorem body_owes_in (c : Dev nD) : (dats m ρ 0 c).owesAt () t₀.castSucc ⊢ (Owe c allPay : sProp 𝕄) := by
  unfold Dat.owesAt Pipeline.owesWithin Owe
  iintro ⟨%W, %hW, HO⟩
  iexists W
  iexact HO
set_option maxRecDepth 4000 in
theorem body_owes_out (c : Dev nD) : (Owe c [] : sProp 𝕄) ⊢ (dats m ρ 0 c).owesAt () t₀.succ := by
  unfold Dat.owesAt Pipeline.owesWithin Owe
  iintro ⟨%W, HO⟩
  iexists W
  isplitr; · (ipureintro; exact fun _ _ => Or.inl trivial)
  iexact HO

set_option maxRecDepth 4000 in
theorem body_post (c : Dev nD) :
    (iprop(zeros c ∗ scr c ∗ Owe c [] ∗ ins m c ∗ Pt cc0_stg5_0 c Finset.univ (outV m c)) : sProp 𝕄) ⊢ bodyPost m ρ c := by
  unfold bodyPost Φ₁ ins
  iintro ⟨HZ, HS, HO, ⟨H0, H1, H2, H3, H4⟩, H5⟩
  isplitl [HZ HS]
  · isplitl [HZ] <;> iassumption
  isplitl [HO]; · iapply (body_owes_out m ρ c); iexact HO
  isplitl [H0]; · iapply (stg_out (F := F) c cc0_stg0_0 _); iexact H0
  isplitl [H1]; · iapply (stg_out (F := F) c cc0_stg1_0 _); iexact H1
  isplitl [H2]; · iapply (stg_out (F := F) c cc0_stg2_0 _); iexact H2
  isplitl [H3]; · iapply (stg_out (F := F) c cc0_stg3_0 _); iexact H3
  isplitl [H4]; · iapply (stg_out (F := F) c cc0_stg4_0 _); iexact H4
  iapply (stg_out (F := F) c cc0_stg5_0 _); iexact H5

set_option maxRecDepth 4000 in
/-- The body does what is asked of it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wpc c (cc0_body (F := F) m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) cc0_scratch4 cc0_scratch5 cc0_scratch6 cc0_scratch7) (fun _ => bodyPost m ρ c)
  unfold bodyPre Φ₀ start ghost
  iintro ⟨⟨⟨⟨%K, #HR, HP, HT⟩, HC, #Hlev⟩, HS⟩, HO, ⟨%d0, H0⟩, ⟨%d1, H1⟩, ⟨%d2, H2⟩, ⟨%d3, H3⟩, ⟨%d4, H4⟩, ⟨%d5, H5⟩⟩
  ihave H := (body_run m K c) $$ [HP HT HC HS HO H0 H1 H2 H3 H4 H5]
  · isplitr; · iexact HR
    isplitr; · iexact Hlev
    isplitl [HP]; · iexact HP
    isplitl [HT]; · iexact HT
    isplitl [HC]; · iexact HC
    isplitl [HO]; · iapply (body_owes_in m ρ c); iexact HO
    isplitl [HS]; · iexact HS
    isplitl [H0 H1 H2 H3 H4]
    · unfold ins
      isplitl [H0]; · iapply (stg_in (F := F) c cc0_stg0_0 (before_0 m ρ c d0)); iexact H0
      isplitl [H1]; · iapply (stg_in (F := F) c cc0_stg1_0 (before_1 m ρ c d1)); iexact H1
      isplitl [H2]; · iapply (stg_in (F := F) c cc0_stg2_0 (before_2 m ρ c d2)); iexact H2
      isplitl [H3]; · iapply (stg_in (F := F) c cc0_stg3_0 (before_3 m ρ c d3)); iexact H3
      iapply (stg_in (F := F) c cc0_stg4_0 (before_4 m ρ c d4)); iexact H4
    iexists _
    iapply (stg_in (F := F) c cc0_stg5_0 rfl); iexact H5
  iapply (wp_wand frame _ Set.univ) $$ H
  iintro %r H
  iapply (body_post m ρ c); iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  iintro ⟨HZ, Hr⟩
  ihave HZ := (Entails.of_eq (sems0_eq (F := F) c).symm) $$ HZ
  icases HZ with ⟨HU, HO⟩
  isplitl [HU]; · iexact HU
  isplitl [HO]; · iexact HO
  iexact Hr

theorem stage_low (q : DmaSem sig) (hq : idx (.dma q) = none) : ∀ j ∈ allPay, levS (.dma q) < levS (csem (kk j)) := by
  rw [show levS (.dma q) = 0 by unfold levS; rw [hq]]; decide

theorem mayWait_stage (c : Dev nD) (q : DmaSem sig) (hq : idx (.dma q) = none) (O : CellTallies nD τ sig Unit) (hO : O = O₀ c ∨ O = 0) :
    (levAts L lv : sProp 𝕄) ⊢ MayWait (c : Thread nD τ) (.dma q) () O := by
  rcases hO with rfl | rfl
  · exact mayWait c (.dma q) allPay (stage_low q hq)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What array `w` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The kernel runs on all sixteen devices to the end, and leaves the arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_0 (c : Dev nD) : finalA m ρ c (0 : Fin 6) = m ((c : Thread nD τ).loc main_arg0) :=
  (dats (F := F) m ρ 0 c).arrAt_in (0 : Fin 6) rfl _

theorem finalA_1 (c : Dev nD) : finalA m ρ c (1 : Fin 6) = m ((c : Thread nD τ).loc main_arg1) :=
  (dats (F := F) m ρ 0 c).arrAt_in (1 : Fin 6) rfl _

theorem finalA_2 (c : Dev nD) : finalA m ρ c (2 : Fin 6) = m ((c : Thread nD τ).loc main_arg2) :=
  (dats (F := F) m ρ 0 c).arrAt_in (2 : Fin 6) rfl _

theorem finalA_3 (c : Dev nD) : finalA m ρ c (3 : Fin 6) = m ((c : Thread nD τ).loc main_arg3) :=
  (dats (F := F) m ρ 0 c).arrAt_in (3 : Fin 6) rfl _

theorem finalA_4 (c : Dev nD) : finalA m ρ c (4 : Fin 6) = m ((c : Thread nD τ).loc main_arg4) :=
  (dats (F := F) m ρ 0 c).arrAt_in (4 : Fin 6) rfl _

end Cert.RunKernelIdeal

end
-- ==== Proof.RunKernelIdeal.Final.lean ====
module

public import proofs.«01_k».proof.Proof.RunKernelIdeal.Launch
public import Idealize.ShloMosaic.Lib.Pipeline.Value

/-! # The arrays after the run -/

@[expose] public section

noncomputable section

namespace Cert.RunKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! Every window's block is its whole array. -/

theorem emb_0 (x : S512x256.Idx) : (win0_0.blk (0 : Fin 1)).view.emb x = x := by
  funext a
  apply Fin.ext
  fin_cases a
  · show 0 * 512 + 1 * (x 0 : ℕ) = (x 0 : ℕ); omega
  · show 0 * 256 + 1 * (x 1 : ℕ) = (x 1 : ℕ); omega
theorem xC_eq (c : Dev nD) : xC m c = m ((c : Thread nD τ).loc main_arg0) := by
  funext x
  unfold xC
  rw [View.read_apply]
  exact congrArg (m ((c : Thread nD τ).loc main_arg0)) (emb_0 x)

theorem emb_1 (x : S256x32.Idx) : (win0_1.blk (0 : Fin 1)).view.emb x = x := by
  funext a
  apply Fin.ext
  fin_cases a
  · show 0 * 256 + 1 * (x 0 : ℕ) = (x 0 : ℕ); omega
  · show 0 * 32 + 1 * (x 1 : ℕ) = (x 1 : ℕ); omega
theorem rC_eq (c : Dev nD) : rC m c = m ((c : Thread nD τ).loc main_arg1) := by
  funext x
  unfold rC
  rw [View.read_apply]
  exact congrArg (m ((c : Thread nD τ).loc main_arg1)) (emb_1 x)

theorem emb_2 (x : S512x1.Idx) : (win0_2.blk (0 : Fin 1)).view.emb x = x := by
  funext a
  apply Fin.ext
  fin_cases a
  · show 0 * 512 + 1 * (x 0 : ℕ) = (x 0 : ℕ); omega
  · show 0 * 1 + 1 * (x 1 : ℕ) = (x 1 : ℕ); omega
theorem iC_eq (c : Dev nD) : iC m c = m ((c : Thread nD τ).loc main_arg2) := by
  funext x
  unfold iC
  rw [View.read_apply]
  exact congrArg (m ((c : Thread nD τ).loc main_arg2)) (emb_2 x)

theorem emb_3 (x : S2x256x512.Idx) : (win0_3.blk (0 : Fin 1)).view.emb x = x := by
  funext a
  apply Fin.ext
  fin_cases a
  · show 0 * 2 + 1 * (x 0 : ℕ) = (x 0 : ℕ); omega
  · show 0 * 256 + 1 * (x 1 : ℕ) = (x 1 : ℕ); omega
  · show 0 * 512 + 1 * (x 2 : ℕ) = (x 2 : ℕ); omega
theorem eC_eq (c : Dev nD) : eC m c = m ((c : Thread nD τ).loc main_arg3) := by
  funext x
  unfold eC
  rw [View.read_apply]
  exact congrArg (m ((c : Thread nD τ).loc main_arg3)) (emb_3 x)

theorem emb_4 (x : S256x512.Idx) : (win0_4.blk (0 : Fin 1)).view.emb x = x := by
  funext a
  apply Fin.ext
  fin_cases a
  · show 0 * 256 + 1 * (x 0 : ℕ) = (x 0 : ℕ); omega
  · show 0 * 512 + 1 * (x 1 : ℕ) = (x 1 : ℕ); omega
theorem sC_eq (c : Dev nD) : sC m c = m ((c : Thread nD τ).loc main_arg4) := by
  funext x
  unfold sC
  rw [View.read_apply]
  exact congrArg (m ((c : Thread nD τ).loc main_arg4)) (emb_4 x)

theorem emb_5 (x : S32x512.Idx) : (win0_5.blk (0 : Fin 1)).view.emb x = x := by
  funext a
  apply Fin.ext
  fin_cases a
  · show 0 * 32 + 1 * (x 0 : ℕ) = (x 0 : ℕ); omega
  · show 0 * 512 + 1 * (x 1 : ℕ) = (x 1 : ℕ); omega

/-- The result array after the run. -/
theorem finalA_5 (c : Dev nD) : finalA m ρ c (5 : Fin 6) = outV m c := by
  refine (dats (F := F) m ρ 0 c).arrAt_eq_of_cover (5 : Fin 6) (outV m c) (fun t _ => ?_) (fun i => ⟨t₀, rfl, ?_⟩)
  · rw [fin_N t]
    funext x
    rw [View.read_apply]
    exact (congrArg (outV m c) (emb_5 x)).symm
  · have h := ((cfg0.win (5 : Fin 6)).blk t₀).view.emb_mem_set i
    rwa [show ((cfg0.win (5 : Fin 6)).blk t₀).view.emb i = i from emb_5 i] at h

/-- The run: the result is `outV`, the arguments keep what they held, every semaphore ends at zero. -/
theorem run_final : θ_run defs (onTc (τ := τ) (main (F := F))) (s₀ m ρ) (fun r => (∀ c : Dev nD,
      r.2.mem ((c : Thread nD τ).loc main_v1) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨(h.1 c (5 : Fin 6)).trans (finalA_5 m ρ c), (h.1 c (0 : Fin 6)).trans (finalA_0 m ρ c),
    (h.1 c (1 : Fin 6)).trans (finalA_1 m ρ c), (h.1 c (2 : Fin 6)).trans (finalA_2 m ρ c), (h.1 c (3 : Fin 6)).trans (finalA_3 m ρ c),
    (h.1 c (4 : Fin 6)).trans (finalA_4 m ρ c)⟩, h.2⟩) (run_main m ρ)

end Cert.RunKernelIdeal

end
-- ==== Proof.Value.Spec.lean ====
module

public import Idealize.ShloMosaic.PureOps.Ideal.Laws
public import Idealize.ShloMosaic.Lib.ValueIdx

/-! # One token's output

The mathematics of the problem for one token: `v` is the token's row of the input, `R` the router
matrix, `i` the index of the expert the token is sent to. Everything is over the ideal values, where
`0 * y = 0` for every `y`, infinities included. -/

@[expose] public section

noncomputable section

namespace Cert.Moe

open Idealize.ShloMosaic Idealize.ShloMosaic.ValueIdx

/-- Row `r` of a matrix with 256 columns. -/
def row {n : ℕ} (x : (⟨2, ![n, 256]⟩ : Shape).Idx → EReal) (r : Fin n) : Fin 256 → EReal := fun k => x (ix2 r k)

/-- The router matrix by its two coordinates. -/
def rmat (R : (⟨2, ![256, 32]⟩ : Shape).Idx → EReal) : Fin 256 → Fin 32 → EReal := fun k e => R (ix2 k e)

/-- Column `o` of a matrix with 256 rows. -/
def col (S : (⟨2, ![256, 512]⟩ : Shape).Idx → EReal) (o : Fin 512) : Fin 256 → EReal := fun k => S (ix2 k o)

/-- A row of 256 ideal numbers times a column of as many. -/
def lin (v w : Fin 256 → EReal) : EReal := ∑ k, v k * w k

/-- The router's score of expert `e`. -/
def score (v : Fin 256 → EReal) (R : Fin 256 → Fin 32 → EReal) (e : Fin 32) : EReal := lin v fun k => R k e

/-- The largest score, as the maximum over the experts starting from minus infinity. -/
def top (v : Fin 256 → EReal) (R : Fin 256 → Fin 32 → EReal) : EReal :=
  (Finset.univ : Finset (Fin 32)).fold max (Ideal.ofBits .f32 0xFF800000#32) (score v R)

/-- The exponential of a score less the largest. -/
def weight (v : Fin 256 → EReal) (R : Fin 256 → Fin 32 → EReal) (e : Fin 32) : EReal :=
  Ideal.exp (score v R e - top v R)

/-- The softmax probability of expert `e`. -/
def prob (v : Fin 256 → EReal) (R : Fin 256 → Fin 32 → EReal) (e : Fin 32) : EReal :=
  Ideal.div (weight v R e) (∑ e' : Fin 32, weight v R e')

/-- The gate: the probability of the expert whose number is `i`, zero when `i` is no expert's number. -/
def gate (v : Fin 256 → EReal) (R : Fin 256 → Fin 32 → EReal) (i : BitVec 32) : EReal :=
  ∑ e : Fin 32, if BitVec.ofNat 32 e.val = i then prob v R e else 0

/-- What the holder of the experts `w` and `w + 1` contributes to one number of the token's output;
`a` and `b` are that number's columns of the two experts' matrices. -/
def part (w : BitVec 32) (v : Fin 256 → EReal) (i : BitVec 32) (R : Fin 256 → Fin 32 → EReal)
    (a b : Fin 256 → EReal) : EReal :=
  (if i = w then gate v R i else 0) * lin v a + (if i = w + 1#32 then gate v R i else 0) * lin v b

/-- A gate whose index is an expert's number is that expert's probability. -/
theorem gate_ofNat (v : Fin 256 → EReal) (R : Fin 256 → Fin 32 → EReal) (e : Fin 32) :
    gate v R (BitVec.ofNat 32 e.val) = prob v R e := by
  unfold gate
  rw [Finset.sum_eq_single e, if_pos rfl]
  · intro b _ hb
    refine if_neg fun h => hb (Fin.ext ?_)
    have h' := congrArg BitVec.toNat h
    rw [BitVec.toNat_ofNat, BitVec.toNat_ofNat, Nat.mod_eq_of_lt (by omega), Nat.mod_eq_of_lt (by omega)] at h'
    exact h'
  · exact fun h => absurd (Finset.mem_univ e) h

end Cert.Moe
-- ==== Proof.Value.Block.lean ====
module

public import proofs.«01_k».proof.Proof.Value.Spec
public import proofs.«01_k».proof.Proof.RunKernelIdeal.Cont
public import Idealize.ShloMosaic.Lib.MatmulPlain
public import Idealize.ShloMosaic.Lib.ValueLayout
public import Idealize.ShloMosaic.Lib.ValueLayoutCasts

/-! # What one block of rows computes

The kernel's arithmetic on a block of 256 tokens, read row by row: the router's softmax, the gate, and
the two experts' products. The block that is sent and the block that is kept go through the same
operations. -/

@[expose] public section

noncomputable section

namespace Cert.ValueEq

open Cert.KernelIdeal Cert.KernelIdeal.Gen Cert.Moe
open Idealize.ShloMosaic Idealize.ShloMosaic.ValueIdx

/-- A reshape to the same shape changes nothing. -/
theorem cast_same {α : Type} {s : Shape} (v : s.Idx → α) (h : s.ShapeCasts s) (j : s.Idx) : shapeCast s v h j = v j :=
  shapeCast_apply v h j j rfl

/-- One column spread over `n` columns reads that column. -/
theorem spread_apply {α : Type} {a n : ℕ} (ha : a ≠ 1) (v : (⟨2, ![a, 1]⟩ : Shape).Idx → α)
    (h : (⟨2, ![a, 1]⟩ : Shape).Broadcasts ⟨2, ![a, n]⟩) (r : Fin a) (c : Fin n) :
    broadcastTo ⟨2, ![a, n]⟩ v h (ix2 r c) = v (ix2 r (0 : Fin 1)) :=
  broadcastTo_apply v h _ _ fun ax => by
    match ax with
    | ⟨0, _⟩ => exact (if_neg ha).symm
    | ⟨1, _⟩ => rfl

/-- Where the row reduction of a 256 by 32 matrix reads: row `r`, the reduced coordinate as column. -/
theorem lift_row (h : S256x32.Reduces [1] S256) (r : Fin 256) (e : Fin 32) : h.lift (ix1 r) e = ix2 r e := by
  funext b
  match b with
  | ⟨0, _⟩ => rfl
  | ⟨1, _⟩ => rfl

/-- The row sums of a 256 by 32 matrix. -/
theorem rowsum_apply (x : FVec Ideal S256x32 .f32) (r : Fin 256) :
    multiReduction .add [1] S256 x 0x00000000#32 reduces_S256x32_S256 (.inl rfl) rfl (ix1 r)
      = ∑ e : Fin 32, x (ix2 r e) :=
  (Ideal.multiReduction_add_single x _ reduces_S256x32_S256 (.inl rfl) rfl (ix1 r)).trans
    (Finset.sum_congr rfl fun e _ => congrArg x (lift_row _ r e))

/-- The row maxima of a 256 by 32 matrix. -/
theorem rowmax_apply (x : FVec Ideal S256x32 .f32) (r : Fin 256) :
    multiReduction .maximumf [1] S256 x 0xFF800000#32 reduces_S256x32_S256 (.inl rfl) rfl (ix1 r)
      = (Finset.univ : Finset (Fin 32)).fold max (Ideal.ofBits .f32 0xFF800000#32) (fun e => x (ix2 r e)) :=
  (Ideal.multiReduction_maximumf_single x _ reduces_S256x32_S256 (.inl rfl) rfl (ix1 r)).trans
    (congrArg (fun f => (Finset.univ : Finset (Fin 32)).fold max (Ideal.ofBits .f32 0xFF800000#32) f)
      (funext fun e => congrArg x (lift_row _ r e)))

/-- A product with the plain contraction and a zero accumulator, at one place. -/
theorem mm_apply {M N : ℕ} (x : FVec Ideal ⟨2, ![M, 256]⟩ .f32) (y : FVec Ideal ⟨2, ![256, N]⟩ .f32) (r : Fin M) (c : Fin N) :
    matmul (DotDims.plain M 256 N) none x y (constant ⟨2, ![M, N]⟩ .f32 0x00000000#32) (ix2 r c)
      = lin (row x r) fun k => y (ix2 k c) := by
  refine (Ideal.matmul_plain_apply none x y _ r c).trans ?_
  rw [constant_apply]
  exact (congrArg (· + _) Ideal.ofBits_zero_f32).trans (zero_add _)

/-- The choice by equality of two words. -/
theorem pick_apply {s : Shape} (a b : IVec s 32) (x y : FVec Ideal s .f32) (j : s.Idx) :
    select (cmpi .eq a b) x y j = if a j = b j then x j else y j := by
  show Scalar.select (BitVec.ofBool (a j == b j)) (x j) (y j) = _
  by_cases h : a j = b j
  · rw [if_pos h, h, beq_self_eq_true]; rfl
  · rw [if_neg h, beq_false_of_ne h]; rfl

/-- The splat of the zero word holds zero. -/
theorem zeros_apply (s : Shape) (j : s.Idx) : broadcast s (Scalar.ofBits (F := Ideal) .f32 0x00000000#32) j = (0 : EReal) :=
  Ideal.ofBits_zero_f32

/-! ## The softmax -/

/-- A matrix's row maxima, spread back over its columns. -/
def maxes (x : FVec Ideal S256x32 .f32) : FVec Ideal S256x32 .f32 :=
  broadcastTo S256x32 (shapeCast S256x1 (multiReduction .maximumf [1] S256 x 0xFF800000#32 reduces_S256x32_S256 (.inl rfl) rfl)
    shapeCasts_S256_S256x1) broadcasts_S256x1_S256x32

/-- A matrix's row sums as one column. -/
def sums (x : FVec Ideal S256x32 .f32) : FVec Ideal S256x1 .f32 :=
  shapeCast S256x1 (multiReduction .add [1] S256 x 0x00000000#32 reduces_S256x32_S256 (.inl rfl) rfl) shapeCasts_S256_S256x1

/-- The router's scores of a block. -/
def scores (xs : FVec Ideal S256x256 .f32) (R : FVec Ideal S256x32 .f32) : FVec Ideal S256x32 .f32 :=
  matmul dot_S256x256_S256x32_S256x32_1_0_0_1_n_n none xs (shapeCast S256x32 R shapeCasts_S256x32_S256x32)
    (constant S256x32 .f32 0x00000000#32)

/-- The exponentials of the scores less the row's largest. -/
def weights (xs : FVec Ideal S256x256 .f32) (R : FVec Ideal S256x32 .f32) : FVec Ideal S256x32 .f32 :=
  exp (subf (scores xs R) (maxes (scores xs R)))

/-- The probability of each row's own expert, as one column. -/
def gates (xs : FVec Ideal S256x256 .f32) (R : FVec Ideal S256x32 .f32) (is : IVec S256x1 32) : FVec Ideal S256x1 .f32 :=
  sums (select (cmpi .eq (iota .tc S256x32 32 [1] iota_S256x32_d1_w32) (broadcastTo S256x32 is broadcasts_S256x1_S256x32))
    (divf (weights xs R) (broadcastTo S256x32 (sums (weights xs R)) broadcasts_S256x1_S256x32))
    (broadcast S256x32 (Scalar.ofBits (F := Ideal) .f32 0x00000000#32)))

/-- The gate times one expert's product, where the row's expert is the one numbered `w`. -/
def routed (w : BitVec 32) (xs : FVec Ideal S256x256 .f32) (R : FVec Ideal S256x32 .f32) (is : IVec S256x1 32)
    (E : FVec Ideal S1x256x512 .f32) : FVec Ideal S256x512 .f32 :=
  mulf (broadcastTo S256x512 (select (cmpi .eq is (broadcast S256x1 w)) (gates xs R is)
      (broadcast S256x1 (Scalar.ofBits (F := Ideal) .f32 0x00000000#32))) broadcasts_S256x1_S256x512)
    (matmul dot_S256x256_S256x512_S256x512_1_0_0_1_n_n none xs (shapeCast S256x512 E shapeCasts_S1x256x512_S256x512)
      (constant S256x512 .f32 0x00000000#32))

section
variable (xs : FVec Ideal S256x256 .f32) (R : FVec Ideal S256x32 .f32) (is : IVec S256x1 32) (r : Fin 256)

theorem sums_apply (x : FVec Ideal S256x32 .f32) : sums x (ix2 r (0 : Fin 1)) = ∑ e : Fin 32, x (ix2 r e) :=
  (shapeCast_a_a1_apply _ _ r 0).trans (rowsum_apply x r)

theorem maxes_apply (x : FVec Ideal S256x32 .f32) (c : Fin 32) :
    maxes x (ix2 r c) = (Finset.univ : Finset (Fin 32)).fold max (Ideal.ofBits .f32 0xFF800000#32) (fun e => x (ix2 r e)) :=
  (spread_apply (by decide) _ _ r c).trans ((shapeCast_a_a1_apply _ _ r 0).trans (rowmax_apply x r))

theorem scores_apply (e : Fin 32) : scores xs R (ix2 r e) = score (row xs r) (rmat R) e :=
  (mm_apply xs _ r e).trans (congrArg (lin (row xs r)) (funext fun k => cast_same R _ (ix2 k e)))

theorem weights_apply (e : Fin 32) : weights xs R (ix2 r e) = weight (row xs r) (rmat R) e := by
  show Ideal.exp (scores xs R (ix2 r e) - maxes (scores xs R) (ix2 r e)) = _
  rw [maxes_apply, scores_apply, show (fun e => scores xs R (ix2 r e)) = score (row xs r) (rmat R) from
    funext fun e => scores_apply xs R r e]
  rfl

theorem gates_apply : gates xs R is (ix2 r (0 : Fin 1)) = gate (row xs r) (rmat R) (is (ix2 r 0)) := by
  unfold gates gate
  rw [sums_apply]
  refine Finset.sum_congr rfl fun e _ => ?_
  rw [pick_apply, iota_single_apply, spread_apply (by decide), divf_apply, spread_apply (by decide), sums_apply,
    weights_apply]
  simp only [weights_apply]
  rw [zeros_apply]
  rfl

theorem routed_apply (w : BitVec 32) (E : FVec Ideal S1x256x512 .f32) (o : Fin 512) :
    routed w xs R is E (ix2 r o)
      = (if is (ix2 r 0) = w then gate (row xs r) (rmat R) (is (ix2 r 0)) else 0)
        * lin (row xs r) fun k => E (ix3 (0 : Fin 1) k o) := by
  unfold routed
  rw [mulf_apply, spread_apply (by decide), pick_apply, gates_apply]
  have hm : matmul dot_S256x256_S256x512_S256x512_1_0_0_1_n_n none xs (shapeCast S256x512 E shapeCasts_S1x256x512_S256x512)
      (constant S256x512 .f32 0x00000000#32) (ix2 r o) = lin (row xs r) fun k => E (ix3 (0 : Fin 1) k o) :=
    (mm_apply xs _ r o).trans (congrArg (lin (row xs r)) (funext fun k => shapeCast_1ab_ab_apply E _ k o))
  rw [hm, zeros_apply]
  rfl

/-- The block that is kept, at row `r` and column `o`. -/
theorem kept_apply (w : BitVec 32) (E0 E1 : FVec Ideal S1x256x512 .f32) (o : Fin 512) :
    k0_pay15 w xs is (k0_pay14 xs R) E0 E1 (ix2 r o)
      = part w (row xs r) (is (ix2 r 0)) (rmat R) (fun k => E0 (ix3 (0 : Fin 1) k o)) (fun k => E1 (ix3 (0 : Fin 1) k o)) := by
  show addf (routed w xs R is E0) (routed (Scalar.addi w 1#32) xs R is E1) (ix2 r o) = _
  rw [addf_apply, routed_apply, routed_apply]
  rfl

/-- The block that is sent, at row `r` and column `o`. -/
theorem sent_apply (w : BitVec 32) (E0 E1 : FVec Ideal S1x256x512 .f32) (o : Fin 512) :
    k0_pay11 w xs is (scores xs R) E0 E1 (ix2 r o)
      = part w (row xs r) (is (ix2 r 0)) (rmat R) (fun k => E0 (ix3 (0 : Fin 1) k o)) (fun k => E1 (ix3 (0 : Fin 1) k o)) := by
  refine Eq.trans ?_ (kept_apply xs R is r w E0 E1 o)
  exact cast_same (addf (routed w xs R is E0) (routed (Scalar.addi w 1#32) xs R is E1)) _ (ix2 r o)

end

/-- The product every token takes with the shared expert. -/
theorem shared_apply (x : FVec Ideal S32x256 .f32) (S : FVec Ideal S256x512 .f32) (r : Fin 32) (o : Fin 512) :
    k0_pay16 (F := Ideal) x S (ix2 r o) = lin (row x r) (col S o) := by
  have hx : shapeCast S32x256 x shapeCasts_S32x256_S32x256 = x := funext fun j => cast_same x _ j
  have hS : shapeCast S256x512 S shapeCasts_S256x512_S256x512 = S := funext fun j => cast_same S _ j
  show matmul dot_S32x256_S256x512_S32x512_1_0_0_1_n_n none (shapeCast S32x256 x shapeCasts_S32x256_S32x256)
    (shapeCast S256x512 S shapeCasts_S256x512_S256x512) (constant S32x512 .f32 0x00000000#32) (ix2 r o) = _
  rw [hx, hS]
  exact mm_apply x S r o

end Cert.ValueEq
-- ==== Proof.Value.Rows.lean ====
module

public import proofs.«01_k».proof.Proof.Value.Block

/-! # Which tokens a block holds

Device `c` at place `q = c % 4` of its layer keeps 256 tokens: in its lower 128 rows the four groups of
32 tokens numbered `q`, `q + 4`, `q + 8`, `q + 12`, in its upper 128 rows the groups of the place `3 - q`.
The block it sends holds, in the same order, the tokens its first partner keeps. -/

@[expose] public section

noncomputable section

namespace Cert.ValueEq

open Cert.KernelIdeal Cert.KernelIdeal.Gen Cert.Moe Cert.RunKernelIdeal
open Idealize.ShloMosaic Idealize.ShloMosaic.ValueIdx

set_option backward.proofsInPublic true

/-- The place of a device in its layer. -/
def place (c : Dev nD) : Fin 4 := ⟨c.val % 4, Nat.mod_lt _ (by decide)⟩

/-- Token `r` of the `j`-th group of place `w`. -/
def tokIn (w j : Fin 4) (r : Fin 32) : Fin 512 := ⟨32 * (4 * j.val + w.val) + r.val, by omega⟩

/-- The token in row `r` of the block kept at place `w`. -/
def tok (w : Fin 4) (r : Fin 256) : Fin 512 :=
  if h : r.val < 128 then tokIn w ⟨r.val / 32, by omega⟩ ⟨r.val % 32, by omega⟩
  else tokIn w.rev ⟨r.val / 32 - 4, by omega⟩ ⟨r.val % 32, by omega⟩

/-- The token in row `r` of the block device `c` keeps. -/
def krow (c : Dev nD) (r : Fin 256) : Fin 512 := tok (place c) r

/-! ## The offsets -/

theorem off1 : ∀ (c : Dev nD) (j : Fin 4),
    k0_off1 c (BitVec.ofNat 32 (4 * j.val)) = ![(tokIn (place (par 0 c)) j 0).val, 0] := by decide +kernel
theorem off2 : ∀ (c : Dev nD) (j : Fin 4),
    k0_off2 c (BitVec.ofNat 32 (4 * j.val)) = ![(tokIn (place (par 0 c)).rev j 0).val, 0] := by decide +kernel
theorem off3 : ∀ (c : Dev nD) (j : Fin 4),
    k0_off3 c (BitVec.ofNat 32 (4 * j.val)) = ![(tokIn (place (par 0 c)) j 0).val, 0] := by decide +kernel
theorem off4 : ∀ (c : Dev nD) (j : Fin 4),
    k0_off4 c (BitVec.ofNat 32 (4 * j.val)) = ![(tokIn (place (par 0 c)).rev j 0).val, 0] := by decide +kernel
theorem off5 : ∀ (c : Dev nD) (j : Fin 4),
    k0_off5 c (BitVec.ofNat 32 (4 * j.val)) = ![(tokIn (place c) j 0).val, 0] := by decide +kernel
theorem off6 : ∀ (c : Dev nD) (j : Fin 4),
    k0_off6 c (BitVec.ofNat 32 (4 * j.val)) = ![(tokIn (place c).rev j 0).val, 0] := by decide +kernel
theorem off7 : ∀ (c : Dev nD) (j : Fin 4),
    k0_off7 c (BitVec.ofNat 32 (4 * j.val)) = ![(tokIn (place c) j 0).val, 0] := by decide +kernel
theorem off8 : ∀ (c : Dev nD) (j : Fin 4),
    k0_off8 c (BitVec.ofNat 32 (4 * j.val)) = ![(tokIn (place c).rev j 0).val, 0] := by decide +kernel

/-! ## The loads -/

theorem ldX_tok (X : S512x256.Idx → EReal) (o : Fin 2 → ℕ) (h : ∀ a, o a + S32x256.size a ≤ S512x256.size a) (w j : Fin 4)
    (ho : o = ![(tokIn w j 0).val, 0]) (r : Fin 32) (k : Fin 256) :
    ldX (F := Ideal) X o h (ix2 r k) = X (ix2 (tokIn w j r) k) := by
  subst ho
  refine congrArg X (funext fun a => Fin.ext ?_)
  match a with
  | ⟨0, _⟩ => exact congrArg (32 * (4 * j.val + w.val) + ·) (Nat.one_mul r.val)
  | ⟨1, _⟩ => exact (Nat.zero_add _).trans (Nat.one_mul k.val)

theorem ldI_tok (I : S512x1.Idx → BitVec 32) (o : Fin 2 → ℕ) (h : ∀ a, o a + S32x1.size a ≤ S512x1.size a) (w j : Fin 4)
    (ho : o = ![(tokIn w j 0).val, 0]) (r : Fin 32) (k : Fin 1) :
    ldI (F := Ideal) I o h (ix2 r k) = I (ix2 (tokIn w j r) k) := by
  subst ho
  refine congrArg I (funext fun a => Fin.ext ?_)
  match a with
  | ⟨0, _⟩ => exact congrArg (32 * (4 * j.val + w.val) + ·) (Nat.one_mul r.val)
  | ⟨1, _⟩ => exact (Nat.zero_add _).trans (Nat.one_mul k.val)

theorem ldR_eq (R : S256x32.Idx → EReal) : ldR (F := Ideal) R = R :=
  Memref.readAt_unit_zero (Elt Ideal) cc0_stg1_0 (by decide) _ R

theorem ldS_eq (S : S256x512.Idx → EReal) : ldS (F := Ideal) S = S :=
  Memref.readAt_unit_zero (Elt Ideal) cc0_stg4_0 (by decide) _ S

theorem ldE0_apply (E : S2x256x512.Idx → EReal) (k : Fin 256) (o : Fin 512) :
    ldE0 (F := Ideal) E (ix3 (0 : Fin 1) k o) = E (ix3 (0 : Fin 2) k o) := by
  refine congrArg E (funext fun a => Fin.ext ?_)
  match a with
  | ⟨0, _⟩ => rfl
  | ⟨1, _⟩ => exact (Nat.zero_add _).trans (Nat.one_mul k.val)
  | ⟨2, _⟩ => exact (Nat.zero_add _).trans (Nat.one_mul o.val)

theorem ldE1_apply (E : S2x256x512.Idx → EReal) (k : Fin 256) (o : Fin 512) :
    ldE1 (F := Ideal) E (ix3 (0 : Fin 1) k o) = E (ix3 (1 : Fin 2) k o) := by
  refine congrArg E (funext fun a => Fin.ext ?_)
  match a with
  | ⟨0, _⟩ => rfl
  | ⟨1, _⟩ => exact (Nat.zero_add _).trans (Nat.one_mul k.val)
  | ⟨2, _⟩ => exact (Nat.zero_add _).trans (Nat.one_mul o.val)

/-! ## The concatenations -/

/-- Eight groups of 32 rows one under the other, read at a row. -/
theorem stack_apply {α : Type} {n : ℕ} (f : Fin 8 → (⟨2, ![32, n]⟩ : Shape).Idx → α)
    (h : Shape.Concatenates ((List.ofFn fun j : Fin 8 => (⟨⟨2, ![32, n]⟩, f j⟩ : (s : Shape) × (s.Idx → α))).map (·.1))
      ⟨2, ![256, n]⟩ 0) (r : Fin 256) (k : Fin n) :
    concatenate ⟨2, ![256, n]⟩ 0 (List.ofFn fun j : Fin 8 => (⟨⟨2, ![32, n]⟩, f j⟩ : (s : Shape) × (s.Idx → α))) h (ix2 r k)
      = f ⟨r.val / 32, by omega⟩ (ix2 ⟨r.val % 32, by omega⟩ k) :=
  concatenate_ofFn_apply 0 f h rfl 32 rfl (ix2 r k) ⟨r.val / 32, by omega⟩ rfl _ rfl fun b hb => by
    match b with
    | ⟨0, _⟩ => exact absurd rfl hb
    | ⟨1, _⟩ => rfl

/-- The eight groups of a place, one under the other, are the place's block. -/
theorem groups_apply {α : Type} {n : ℕ} (p q : Fin 4 → (⟨2, ![32, n]⟩ : Shape).Idx → α) (X : (⟨2, ![512, n]⟩ : Shape).Idx → α)
    (w : Fin 4) (hp : ∀ j r k, p j (ix2 r k) = X (ix2 (tokIn w j r) k))
    (hq : ∀ j r k, q j (ix2 r k) = X (ix2 (tokIn w.rev j r) k))
    (h : Shape.Concatenates (([⟨_, p 0⟩, ⟨_, p 1⟩, ⟨_, p 2⟩, ⟨_, p 3⟩, ⟨_, q 0⟩, ⟨_, q 1⟩, ⟨_, q 2⟩, ⟨_, q 3⟩] :
      List ((s : Shape) × (s.Idx → α))).map (·.1)) ⟨2, ![256, n]⟩ 0) (r : Fin 256) (k : Fin n) :
    concatenate ⟨2, ![256, n]⟩ 0 ([⟨_, p 0⟩, ⟨_, p 1⟩, ⟨_, p 2⟩, ⟨_, p 3⟩, ⟨_, q 0⟩, ⟨_, q 1⟩, ⟨_, q 2⟩, ⟨_, q 3⟩] :
      List ((s : Shape) × (s.Idx → α))) h (ix2 r k) = X (ix2 (tok w r) k) := by
  refine (stack_apply ![p 0, p 1, p 2, p 3, q 0, q 1, q 2, q 3] h r k).trans ?_
  have hall : ∀ (j : Fin 8) (s : Fin 32), (![p 0, p 1, p 2, p 3, q 0, q 1, q 2, q 3] : Fin 8 → _) j (ix2 s k)
      = X (ix2 (if hj : j.val < 4 then tokIn w ⟨j.val, hj⟩ s else tokIn w.rev ⟨j.val - 4, by omega⟩ s) k) := by
    intro j s
    match j with
    | 0 => exact hp 0 s k
    | 1 => exact hp 1 s k
    | 2 => exact hp 2 s k
    | 3 => exact hp 3 s k
    | 4 => exact hq 0 s k
    | 5 => exact hq 1 s k
    | 6 => exact hq 2 s k
    | 7 => exact hq 3 s k
  rw [hall]
  unfold tok
  by_cases hr : r.val < 128
  · rw [dif_pos hr, dif_pos (show r.val / 32 < 4 by omega)]
  · rw [dif_neg hr, dif_neg (show ¬ r.val / 32 < 4 by omega)]

theorem xKeep_apply (c : Dev nD) (X : S512x256.Idx → EReal) (r : Fin 256) (k : Fin 256) :
    xKeep (F := Ideal) c X (ix2 r k) = X (ix2 (krow c r) k) :=
  groups_apply
    (fun j => shapeCast S32x256 (ldX (F := Ideal) X (k0_off5 c (BitVec.ofNat 32 (4 * j.val))) (k0_off5_inb c j)) shapeCasts_S32x256_S32x256)
    (fun j => shapeCast S32x256 (ldX (F := Ideal) X (k0_off6 c (BitVec.ofNat 32 (4 * j.val))) (k0_off6_inb c j)) shapeCasts_S32x256_S32x256)
    X (place c) (fun j s l => (cast_same _ _ _).trans (ldX_tok X _ _ _ j (off5 c j) s l))
    (fun j s l => (cast_same _ _ _).trans (ldX_tok X _ _ _ j (off6 c j) s l))
    concatenates_S32x256_S32x256_S32x256_S32x256_S32x256_S32x256_S32x256_S32x256_S256x256_d0 r k

theorem xSend_apply (c : Dev nD) (X : S512x256.Idx → EReal) (r : Fin 256) (k : Fin 256) :
    xSend (F := Ideal) c X (ix2 r k) = X (ix2 (krow (par 0 c) r) k) :=
  groups_apply
    (fun j => shapeCast S32x256 (ldX (F := Ideal) X (k0_off1 c (BitVec.ofNat 32 (4 * j.val))) (k0_off1_inb c j)) shapeCasts_S32x256_S32x256)
    (fun j => shapeCast S32x256 (ldX (F := Ideal) X (k0_off2 c (BitVec.ofNat 32 (4 * j.val))) (k0_off2_inb c j)) shapeCasts_S32x256_S32x256)
    X (place (par 0 c)) (fun j s l => (cast_same _ _ _).trans (ldX_tok X _ _ _ j (off1 c j) s l))
    (fun j s l => (cast_same _ _ _).trans (ldX_tok X _ _ _ j (off2 c j) s l))
    concatenates_S32x256_S32x256_S32x256_S32x256_S32x256_S32x256_S32x256_S32x256_S256x256_d0 r k

theorem iKeep_apply (c : Dev nD) (I : S512x1.Idx → BitVec 32) (r : Fin 256) (k : Fin 1) :
    iKeep (F := Ideal) c I (ix2 r k) = I (ix2 (krow c r) k) :=
  groups_apply
    (fun j => shapeCast S32x1 (ldI (F := Ideal) I (k0_off7 c (BitVec.ofNat 32 (4 * j.val))) (k0_off7_inb c j)) shapeCasts_S32x1_S32x1)
    (fun j => shapeCast S32x1 (ldI (F := Ideal) I (k0_off8 c (BitVec.ofNat 32 (4 * j.val))) (k0_off8_inb c j)) shapeCasts_S32x1_S32x1)
    I (place c) (fun j s l => (cast_same _ _ _).trans (ldI_tok I _ _ _ j (off7 c j) s l))
    (fun j s l => (cast_same _ _ _).trans (ldI_tok I _ _ _ j (off8 c j) s l))
    concatenates_S32x1_S32x1_S32x1_S32x1_S32x1_S32x1_S32x1_S32x1_S256x1_d0 r k

theorem iSend_apply (c : Dev nD) (I : S512x1.Idx → BitVec 32) (r : Fin 256) (k : Fin 1) :
    iSend (F := Ideal) c I (ix2 r k) = I (ix2 (krow (par 0 c) r) k) :=
  groups_apply
    (fun j => shapeCast S32x1 (ldI (F := Ideal) I (k0_off3 c (BitVec.ofNat 32 (4 * j.val))) (k0_off3_inb c j)) shapeCasts_S32x1_S32x1)
    (fun j => shapeCast S32x1 (ldI (F := Ideal) I (k0_off4 c (BitVec.ofNat 32 (4 * j.val))) (k0_off4_inb c j)) shapeCasts_S32x1_S32x1)
    I (place (par 0 c)) (fun j s l => (cast_same _ _ _).trans (ldI_tok I _ _ _ j (off3 c j) s l))
    (fun j s l => (cast_same _ _ _).trans (ldI_tok I _ _ _ j (off4 c j) s l))
    concatenates_S32x1_S32x1_S32x1_S32x1_S32x1_S32x1_S32x1_S32x1_S256x1_d0 r k

/-! ## The two partial products, token by token -/

/-- The contribution to number `o` of token `n` from a device whose first expert is numbered `w`. -/
def tokenPart (w : BitVec 32) (X : S512x256.Idx → EReal) (R : S256x32.Idx → EReal) (I : S512x1.Idx → BitVec 32)
    (E : S2x256x512.Idx → EReal) (n o : Fin 512) : EReal :=
  part w (row X n) (I (ix2 n (0 : Fin 1))) (rmat R) (fun k => E (ix3 (0 : Fin 2) k o)) (fun k => E (ix3 (1 : Fin 2) k o))

variable (c : Dev nD) (X : S512x256.Idx → EReal) (R : S256x32.Idx → EReal) (I : S512x1.Idx → BitVec 32)
  (E : S2x256x512.Idx → EReal) (r : Fin 256) (o : Fin 512)

theorem pKeep_apply : pKeep (F := Ideal) c X R I E (ix2 r o) = tokenPart (wexp c) X R I E (krow c r) o := by
  unfold pKeep tokenPart
  rw [kept_apply, ldR_eq, iKeep_apply, show row (xKeep (F := Ideal) c X) r = row X (krow c r) from
    funext fun k => xKeep_apply c X r k]
  exact congrArg₂ (part _ _ _ _) (funext fun k => ldE0_apply E k o) (funext fun k => ldE1_apply E k o)

theorem pSend_apply : pSend (F := Ideal) c X R I E (ix2 r o) = tokenPart (wexp c) X R I E (krow (par 0 c) r) o := by
  have hs : sSend (F := Ideal) c X R = scores (xSend c X) (ldR (F := Ideal) R) := by
    unfold sSend k0_pay10 scores xSend
    rfl
  unfold pSend tokenPart
  rw [hs, sent_apply, ldR_eq, iSend_apply, show row (xSend (F := Ideal) c X) r = row X (krow (par 0 c) r) from
    funext fun k => xSend_apply c X r k]
  exact congrArg₂ (part _ _ _ _) (funext fun k => ldE0_apply E k o) (funext fun k => ldE1_apply E k o)

/-- The shared expert's product of the 32 tokens device `c` finishes. -/
theorem pShared_apply (S : S256x512.Idx → EReal) (s : Fin 32) (n : Fin 512) (hn : n.val = 32 * c.val + s.val) :
    pShared (F := Ideal) c X S (ix2 s o) = lin (row X n) (col S o) := by
  unfold pShared
  rw [shared_apply, ldS_eq]
  refine congrArg (fun v => lin v (col S o)) (funext fun k => ?_)
  have h9 := k0_off9_eq c
  refine congrArg X (funext fun a => Fin.ext ?_)
  match a with
  | ⟨0, _⟩ =>
    show k0_off9 c 0 + 1 * s.val = n.val
    rw [h9, hn, Nat.one_mul]; rfl
  | ⟨1, _⟩ =>
    show k0_off9 c 1 + 1 * k.val = k.val
    rw [h9, Nat.one_mul]; exact Nat.zero_add _

end Cert.ValueEq
-- ==== Proof.Value.Sums.lean ====
module

public import proofs.«01_k».proof.Proof.Value.Rows
public import proofs.«01_k».proof.Proof.RunKernelIdeal.Final

/-! # What the exchanges add up

After the three exchanges the result row of every token is the sum of all sixteen devices' partial
products for that token, plus the shared expert's product. -/

@[expose] public section

noncomputable section

namespace Cert.ValueEq

open Cert.KernelIdeal Cert.KernelIdeal.Gen Cert.Moe Cert.RunKernelIdeal
open Idealize.ShloMosaic Idealize.ShloMosaic.ValueIdx Idealize.ShloMosaic.TcCoe Idealize.SL.Sem

set_option backward.proofsInPublic true

/-! ## Reading and writing a band of rows -/

section
variable {T : ℕ} (off : Fin 2 → ℕ) (h : ∀ a, off a + (⟨2, ![T, 512]⟩ : Shape).size a ≤ S256x512.size a) (a : ℕ)
  (ho : off = ![a, 0])
include ho

theorem band_emb (s : Fin T) (o : Fin 512) (r : Fin 256) (hr : r.val = a + s.val) :
    (m6.access (Rect.unit (s := S256x512) off (⟨2, ![T, 512]⟩ : Shape).size h)).emb (ix2 s o) = (ix2 r o : S256x512.Idx) := by
  subst ho
  refine funext fun b => Fin.ext ?_
  match b with
  | ⟨0, _⟩ => exact (congrArg (a + ·) (Nat.one_mul s.val)).trans hr.symm
  | ⟨1, _⟩ => exact (Nat.zero_add _).trans (Nat.one_mul o.val)

theorem band_read (f : S256x512.Idx → EReal) (s : Fin T) (o : Fin 512) (r : Fin 256) (hr : r.val = a + s.val) :
    (m6.access (Rect.unit (s := S256x512) off (⟨2, ![T, 512]⟩ : Shape).size h)).read (Elt Ideal) f (ix2 s o) = f (ix2 r o) :=
  congrArg f (band_emb off h a ho s o r hr)

theorem band_read8 (f : S256x512.Idx → EReal) (s : Fin T) (o : Fin 512) (r : Fin 256) (hr : r.val = a + s.val) :
    (m8.access (Rect.unit (s := S256x512) off (⟨2, ![T, 512]⟩ : Shape).size h)).read (Elt Ideal) f (ix2 s o) = f (ix2 r o) :=
  band_read off h a ho f s o r hr

theorem band_write (f : S256x512.Idx → EReal) (g : (⟨2, ![T, 512]⟩ : Shape).Idx → EReal) (s : Fin T) (o : Fin 512) (r : Fin 256)
    (hr : r.val = a + s.val) :
    (m6.access (Rect.unit (s := S256x512) off (⟨2, ![T, 512]⟩ : Shape).size h)).write (Elt Ideal) f g Finset.univ (ix2 r o : S256x512.Idx)
      = g (ix2 s o) := by
  rw [← band_emb off h a ho s o r hr]
  exact View.write_emb_of_mem _ _ (Finset.mem_univ _)

theorem band_write_off (f : S256x512.Idx → EReal) (g : (⟨2, ![T, 512]⟩ : Shape).Idx → EReal) (o : Fin 512) (r : Fin 256)
    (hr : r.val < a ∨ a + T ≤ r.val) :
    (m6.access (Rect.unit (s := S256x512) off (⟨2, ![T, 512]⟩ : Shape).size h)).write (Elt Ideal) f g Finset.univ (ix2 r o : S256x512.Idx)
      = f (ix2 r o) := by
  subst ho
  refine View.write_of_not_mem _ _ _ fun hm => ?_
  obtain ⟨x, -, hx⟩ := Finset.mem_map.mp hm
  have h0 := congrArg (fun i : S256x512.Idx => (i 0).val) hx
  have h1 : a + 1 * (x 0).val = r.val := h0
  have h2 : (x 0).val < T := (x 0).isLt
  omega

end

/-! ## The accumulators -/

variable (m : (ℓ : Loc nD τ sig) → Buf (Elt Ideal) ℓ)

/-- Device `d`'s contribution to number `o` of token `n`. -/
def contrib (d : Dev nD) (n o : Fin 512) : EReal := tokenPart (wexp d) (xC m d) (rC m d) (iC m d) (eC m d) n o

/-- Row `r` of a 128-row array, as a row of a 256-row array. -/
def lo (r : Fin 128) : Fin 256 := ⟨r.val, by omega⟩
/-- Row `r` of the upper half. -/
def hi (r : Fin 128) : Fin 256 := ⟨r.val + 128, by omega⟩

theorem acc1_apply (c : Dev nD) (r : Fin 256) (o : Fin 512) :
    acc1 m c (ix2 r o) = contrib m c (krow c r) o + contrib m (par 0 c) (krow c r) o := by
  refine (cast_same (addf (keepV m c) (sendV m (par 0 c))) _ (ix2 r o)).trans ?_
  show keepV m c (ix2 r o) + sendV m (par 0 c) (ix2 r o) = _
  unfold keepV sendV
  rw [pKeep_apply, pSend_apply, par_par]
  rfl

theorem low_apply (f : S256x512.Idx → EReal) (r : Fin 128) (o : Fin 512) : low (F := Ideal) f (ix2 r o) = f (ix2 (lo r) o) :=
  band_read ![0, 0] inb_S256x512_S128x512_0_0 0 rfl f r o (lo r) (Nat.zero_add _).symm

theorem up_apply (f : S256x512.Idx → EReal) (r : Fin 128) (o : Fin 512) : up (F := Ideal) f (ix2 r o) = f (ix2 (hi r) o) :=
  band_read ![128, 0] inb_S256x512_S128x512_128_0 128 rfl f r o (hi r) (Nat.add_comm _ _)

theorem acc2_apply (c : Dev nD) (r : Fin 128) (o : Fin 512) :
    acc2 m c (ix2 (lo r) o) = acc1 m c (ix2 (lo r) o) + acc1 m (par 1 c) (ix2 (hi r) o) := by
  refine (band_write ![0, 0] inb_S256x512_S128x512_0_0 0 rfl _ _ r o (lo r) (Nat.zero_add _).symm).trans ?_
  refine (cast_same (addf (low (acc1 m c)) (up (acc1 m (par 1 c)))) _ (ix2 r o)).trans ?_
  exact congrArg₂ (· + ·) (low_apply _ r o) (up_apply _ r o)

/-- The two bands the third exchange adds into do not meet. -/
theorem bands_apart : ∀ c : Dev nD, blk 0 c + 32 ≤ blk 2 c ∨ blk 2 c + 32 ≤ blk 0 c := by decide +kernel

theorem acc3_at12 (c : Dev nD) (s : Fin 32) (o : Fin 512) (r : Fin 256) (hr : r.val = blk 0 c + s.val) :
    acc3 m c (ix2 r o) = acc2 m c (ix2 r o) + acc2 m (par 2 c) (ix2 r o) := by
  have hb := bands_apart c
  refine (band_write_off (k0_off13 c) (k0_off13_inb c) _ (off13 c) _ _ o r (by omega)).trans ?_
  refine (band_write (k0_off12 c) (k0_off12_inb c) _ (off12 c) _ _ s o r hr).trans ?_
  refine (cast_same (addf _ _) _ (ix2 s o)).trans ?_
  exact congrArg₂ (· + ·) (band_read (k0_off12 c) (k0_off12_inb c) _ (off12 c) _ s o r hr)
    (band_read8 (k0_off12 c) (k0_off12_inb c) _ (off12 c) _ s o r hr)

theorem acc3_at13 (c : Dev nD) (s : Fin 32) (o : Fin 512) (r : Fin 256) (hr : r.val = blk 2 c + s.val) :
    acc3 m c (ix2 r o) = acc2 m c (ix2 r o) + acc2 m (par 2 c) (ix2 r o) := by
  have hb := bands_apart c
  refine (band_write (k0_off13 c) (k0_off13_inb c) _ (off13 c) _ _ s o r hr).trans ?_
  refine (cast_same (addf _ _) _ (ix2 s o)).trans ?_
  refine congrArg₂ (· + ·) ((band_read (k0_off13 c) (k0_off13_inb c) _ (off13 c) _ s o r hr).trans ?_)
    (band_read8 (k0_off13 c) (k0_off13_inb c) _ (off13 c) _ s o r hr)
  exact band_write_off (k0_off12 c) (k0_off12_inb c) _ (off12 c) _ _ o r (by omega)

theorem low_read15 (c : Dev nD) (f : S256x512.Idx → EReal) (s : Fin 32) (o : Fin 512) (r : Fin 256) (hr : r.val = blk 0 c + s.val) :
    (m9.access (rect15 c)).read (Elt Ideal) (low (F := Ideal) f) (ix2 s o) = f (ix2 r o) := by
  have h15 := off15 c
  have hle := (blk_le c).1
  have he : (m9.access (rect15 c)).emb (ix2 s o) = (ix2 (⟨r.val, by omega⟩ : Fin 128) o : S128x512.Idx) := by
    refine funext fun b => Fin.ext ?_
    match b with
    | ⟨0, _⟩ =>
      show k0_off15 c 0 + 1 * s.val = r.val
      rw [h15, hr, Nat.one_mul]; rfl
    | ⟨1, _⟩ =>
      show k0_off15 c 1 + 1 * o.val = o.val
      rw [h15, Nat.one_mul]; exact Nat.zero_add _
  exact (congrArg (low (F := Ideal) f) he).trans (low_apply f ⟨r.val, by omega⟩ o)

theorem outV_apply (c : Dev nD) (s : Fin 32) (o : Fin 512) (r : Fin 256) (hr : r.val = blk 0 c + s.val) :
    outV m c (ix2 s o) = acc2 m c (ix2 r o) + acc2 m (par 2 c) (ix2 r o)
      + (acc2 m (par 3 c) (ix2 r o) + acc2 m (par 2 (par 3 c)) (ix2 r o)) + pShared c (xC m c) (sC m c) (ix2 s o) := by
  show ((m6.access (rect12 c)).read (Elt Ideal) (acc3 m c) (ix2 s o) : EReal)
    + (m9.access (rect15 c)).read (Elt Ideal) (low (acc3 m (par 3 c))) (ix2 s o) + pShared c (xC m c) (sC m c) (ix2 s o) = _
  rw [low_read15 c _ s o r hr, acc3_at13 m (par 3 c) s o r (hr.trans (congrArg (· + s.val) (blk_par3 c).2.symm)),
    ← acc3_at12 m c s o r hr]
  exact congrArg (fun z : EReal => z + _ + _) (band_read (k0_off12 c) (k0_off12_inb c) _ (off12 c) _ s o r hr)

/-! ## All sixteen devices -/

/-- The sixteen devices in the order in which device `c`'s sum meets them. -/
def order (c : Dev nD) : List (Dev nD) :=
  [c, par 2 c, par 3 c, par 2 (par 3 c)].flatMap fun d => [d, par 0 d, par 1 d, par 0 (par 1 d)]

theorem order_nodup : ∀ c : Dev nD, (order c).Nodup := by decide +kernel
theorem order_all : ∀ c d : Dev nD, d ∈ order c := by decide +kernel

/-- A sum over the devices in that order is the sum over all devices. -/
theorem order_sum (c : Dev nD) (g : Dev nD → EReal) : ((order c).map g).sum = ∑ d : Dev nD, g d := by
  rw [← List.sum_toFinset g (order_nodup c)]
  exact Finset.sum_congr (Finset.eq_univ_iff_forall.2 fun d => List.mem_toFinset.2 (order_all c d)) fun _ _ => rfl

theorem place_par : ∀ c : Dev nD, place (par 1 c) = (place c).rev ∧ place (par 2 c) = place c ∧ place (par 3 c) = place c := by
  decide +kernel

/-- The upper half of the opposite place holds the tokens of this place's lower half. -/
theorem tok_rev (w : Fin 4) (r : Fin 128) : tok w.rev (hi r) = tok w (lo r) := by
  unfold tok hi lo
  rw [dif_neg (by show ¬ r.val + 128 < 128; omega), dif_pos (by show r.val < 128; omega)]
  rw [Fin.rev_rev]
  refine congrArg₂ (tokIn w) (Fin.ext ?_) (Fin.ext ?_)
  · show (r.val + 128) / 32 - 4 = r.val / 32; omega
  · show (r.val + 128) % 32 = r.val % 32; omega

theorem acc2_contrib (c : Dev nD) (r : Fin 128) (o n : Fin 512) (hn : tok (place c) (lo r) = n) :
    acc2 m c (ix2 (lo r) o)
      = contrib m c n o + contrib m (par 0 c) n o + (contrib m (par 1 c) n o + contrib m (par 0 (par 1 c)) n o) := by
  have h1 : krow c (lo r) = n := hn
  have h2 : krow (par 1 c) (hi r) = n := by
    unfold krow; rw [(place_par c).1, tok_rev]; exact hn
  rw [acc2_apply, acc1_apply, acc1_apply, h1, h2]

/-- The token in row `s` of the band device `c` finishes is token `32 c + s`. -/
theorem tok_own (c : Dev nD) (s : Fin 32) (r : Fin 128) (hr : r.val = blk 0 c + s.val) :
    (tok (place c) (lo r)).val = 32 * c.val + s.val := by
  have hb : blk 0 c = 32 * (c.val / 4) := congrArg (32 * ·) (Nat.xor_zero _)
  rw [hb] at hr
  unfold tok lo
  rw [dif_pos (by show r.val < 128; omega)]
  show 32 * (4 * (r.val / 32) + c.val % 4) + r.val % 32 = _
  omega

/-- Row `s` of device `c`'s result is token `32 c + s`: all devices' contributions and the shared product. -/
theorem out_sum (c : Dev nD) (s : Fin 32) (o n : Fin 512) (hn : n.val = 32 * c.val + s.val) :
    outV m c (ix2 s o) = (∑ d : Dev nD, contrib m d n o) + lin (row (xC m c) n) (col (sC m c) o) := by
  have hle := (blk_le c).1
  let r : Fin 128 := ⟨blk 0 c + s.val, by omega⟩
  have ht : tok (place c) (lo r) = n := Fin.ext ((tok_own c s r rfl).trans hn.symm)
  have h2 : place (par 2 c) = place c := (place_par c).2.1
  have h3 : place (par 3 c) = place c := (place_par c).2.2
  have h23 : place (par 2 (par 3 c)) = place c := ((place_par (par 3 c)).2.1).trans h3
  rw [outV_apply m c s o (lo r) rfl, pShared_apply c (xC m c) o (sC m c) s n hn, acc2_contrib m c r o n ht,
    acc2_contrib m (par 2 c) r o n (h2 ▸ ht), acc2_contrib m (par 3 c) r o n (h3 ▸ ht),
    acc2_contrib m (par 2 (par 3 c)) r o n (h23 ▸ ht), ← order_sum c]
  refine congrArg (· + _) ?_
  simp only [order, List.flatMap_cons, List.flatMap_nil, List.cons_append, List.nil_append, List.append_nil, List.map_cons,
    List.map_nil, List.sum_cons, List.sum_nil]
  abel

end Cert.ValueEq
-- ==== Proof.Value.Gathers.lean ====
module

public import proofs.«01_k».proof.Proof.Gen.ReferenceIdeal
public import Idealize.ShloMosaic.PureOps.Ideal.Laws
public import Idealize.ShloMosaic.Lib.ValueIdx

/-! # The reference's two gathers and its batched product, read at a place

The start index of a gather is read as a signed number and clamped into the operand's range. -/

@[expose] public section

noncomputable section

namespace Cert.RefEq

open Cert.ReferenceIdeal Cert.ReferenceIdeal.Gen
open Idealize.ShloMosaic Idealize.ShloMosaic.ValueIdx

/-- One entry of each row: row `n`'s entry in the column its index names. -/
theorem take_prob {α : Type} (x : S512x32.Idx → α) (idx : IVec S512x1x1 32) (n : Fin 512) :
    Host.gather gather_S512x32_S512x1x1_S512x1_n_1_0_0_1_2_11 x idx (ix2 n (0 : Fin 1))
      = x (ix2 n ⟨min (idx (ix3 n (0 : Fin 1) (0 : Fin 1))).toInt.toNat 31, by omega⟩) := by
  let d := gather_S512x32_S512x1x1_S512x1_n_1_0_0_1_2_11
  unfold Host.gather
  congr 1
  funext a
  refine Fin.ext ?_
  show d.start (ix2 n (0 : Fin 1)) idx a + d.batchCoord (ix2 n (0 : Fin 1)) a + d.offCoord (ix2 n (0 : Fin 1)) a = _
  have h01 : a = 0 ∨ a = 1 := by
    match a with
    | ⟨0, _⟩ => exact Or.inl rfl
    | ⟨1, _⟩ => exact Or.inr rfl
  rcases h01 with rfl | rfl
  · have hb : (0 : Fin 2) ∈ d.operandBatchingDims := List.mem_singleton.mpr rfl
    rw [GatherDims.start_batching _ _ _ _ hb, GatherDims.offCoord_eq_zero _ _ _
      (fun h => ((GatherDims.mem_sKept _ _).mp h).2 hb), Nat.zero_add, Nat.add_zero]
    unfold GatherDims.batchCoord
    rw [dif_pos hb]
    rfl
  · have hs : (1 : Fin 2) ∈ d.startIndexMap := List.mem_singleton.mpr rfl
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos hs]
    have hsi : d.siIdx (ix2 n (0 : Fin 1)) ⟨List.idxOf (1 : Fin 2) d.startIndexMap, List.idxOf_lt_length_iff.2 hs⟩
        = ix3 n (0 : Fin 1) (0 : Fin 1) := by
      funext b; refine Fin.ext ?_
      match b with
      | ⟨0, _⟩ => rfl
      | ⟨1, _⟩ => rfl
      | ⟨2, _⟩ => rfl
    rw [hsi]
    rfl

/-- One expert's matrix for each token. -/
theorem take_expert {α : Type} (x : S32x256x512.Idx → α) (idx : IVec S512x1 32) (n : Fin 512) (k : Fin 256) (o : Fin 512) :
    Host.gather gather_S32x256x512_S512x1_S512x256x512_12_0_n_n_0_1_1256512 x idx (ix3 n k o)
      = x (ix3 ⟨min (idx (ix2 n (0 : Fin 1))).toInt.toNat 31, by omega⟩ k o) := by
  let d := gather_S32x256x512_S512x1_S512x256x512_12_0_n_n_0_1_1256512
  unfold Host.gather
  congr 1
  funext a
  refine Fin.ext ?_
  show d.start (ix3 n k o) idx a + d.batchCoord (ix3 n k o) a + d.offCoord (ix3 n k o) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have hs : (0 : Fin 3) ∈ d.startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hs]
    have hsi : d.siIdx (ix3 n k o) ⟨List.idxOf (0 : Fin 3) d.startIndexMap, List.idxOf_lt_length_iff.2 hs⟩
        = ix2 n (0 : Fin 1) := by
      funext b; refine Fin.ext ?_
      match b with
      | ⟨0, _⟩ => rfl
      | ⟨1, _⟩ => rfl
    rw [hsi]
    rfl
  · have hs : (1 : Fin 3) ∉ d.startIndexMap := fun h => absurd (List.mem_singleton.mp h) (by decide)
    unfold GatherDims.start
    rw [dif_neg hs]
    unfold GatherDims.offCoord
    rw [dif_pos (show (1 : Fin 3) ∈ d.sKept by decide)]
    exact (Nat.zero_add _).trans rfl
  · have hs : (2 : Fin 3) ∉ d.startIndexMap := fun h => absurd (List.mem_singleton.mp h) (by decide)
    unfold GatherDims.start
    rw [dif_neg hs]
    unfold GatherDims.offCoord
    rw [dif_pos (show (2 : Fin 3) ∈ d.sKept by decide)]
    exact (Nat.zero_add _).trans rfl

/-- Each token's row times that token's own matrix. -/
theorem own_product (x : FVec Ideal S512x256 .f32) (y : FVec Ideal S512x256x512 .f32) (n o : Fin 512) :
    Host.dotGeneral dot_S512x256_S512x256x512_S512x512_1_1_n_2_0_0 none x y (ix2 n o)
      = ∑ k : Fin 256, x (ix2 n k) * y (ix3 n k o) := by
  let d := dot_S512x256_S512x256x512_S512x512_1_1_n_2_0_0
  show FloatOps.dotGeneral d none _ x y (ix2 n o) = _
  rw [Ideal.dotGeneral_apply, ← Equiv.sum_comp (contrEquiv1 d 256 rfl rfl).symm]
  refine Finset.sum_congr rfl fun k _ => ?_
  have hk := contrEquiv1_symm_val d 256 rfl rfl k
  have hl : d.lhsIdx (ix2 n o) ((contrEquiv1 d 256 rfl rfl).symm k) = ix2 n k := by
    funext a; refine Fin.ext ?_
    match a with
    | ⟨0, _⟩ => rfl
    | ⟨1, _⟩ => exact hk
  have hr : d.rhsIdx (ix2 n o) ((contrEquiv1 d 256 rfl rfl).symm k) = ix3 n k o := by
    funext a; refine Fin.ext ?_
    match a with
    | ⟨0, _⟩ => rfl
    | ⟨1, _⟩ => exact hk
    | ⟨2, _⟩ => rfl
  rw [hl, hr]

end Cert.RefEq
-- ==== Proof.Value.RefValue.lean ====
module

public import proofs.«01_k».proof.Proof.Value.Spec
public import proofs.«01_k».proof.Proof.Value.Gathers
public import proofs.«01_k».proof.Proof.Gen.ReferenceIdeal.Run
public import Idealize.ShloMosaic.Lib.StackMember
public import Idealize.ShloMosaic.Lib.IdealHost

/-! # What the reference computes

The reference's result, row by row: the shared product, plus the gate times the product with the token's
own expert when the token's index is an expert's number, plus nothing when it is not. -/

@[expose] public section

noncomputable section

namespace Cert.RefEq

open Cert.ReferenceIdeal Cert.ReferenceIdeal.Gen Cert.Moe
open Idealize.ShloMosaic Idealize.ShloMosaic.ValueIdx Idealize.ShloMosaic.TcCoe

variable (X : FVec Ideal S512x256 .f32) (R : FVec Ideal S256x32 .f32) (I : IVec S512x1 32)
  (W : FVec Ideal S32x256x512 .f32) (S : FVec Ideal S256x512 .f32)

/-! ## The parts of the reference's term -/

/-- One number for each row, spread over the columns. -/
def spread (v : FVec Ideal S512 .f32) : FVec Ideal S512x32 .f32 :=
  broadcastInDim S512x32 ![0, 1] bcast_S512x1_S512x32_0_1 (broadcastInDim S512x1 ![0] bcast_S512_S512x1_0 v)

/-- The router's scores. -/
def logits : FVec Ideal S512x32 .f32 := Host.dotGeneral dot_S512x256_S256x32_S512x32_1_0_0_1_n_n none X R

/-- Each row's largest score. -/
def tops : FVec Ideal S512 .f32 :=
  maximumf (broadcastInDim S512 ![] bcast_S_S512 (constant S_ .f32 0xFF800000#32))
    (Host.reduce FloatOps.maximumf (logits X R) (constant S_ .f32 0xFF800000#32) reducesTo_S512x32_S512_d1 h_S_)

/-- The exponentials of the scores less the row's largest. -/
def exps : FVec Ideal S512x32 .f32 := Host.exp (subf (logits X R) (spread (tops X R)))

/-- The softmax. -/
def probs : FVec Ideal S512x32 .f32 :=
  Host.divf (exps X R)
    (spread (Host.reduceAdd (exps X R) (constant S_ .f32 0x00000000#32) reducesTo_S512x32_S512_d1 h_S_))

/-- The splat of one word over the index column. -/
def words (w : BitVec 32) : IVec S512x1 32 := broadcastInDim S512x1 ![] bcast_S_S512x1 (constantI S_ 32 w)

/-- The indices with the negative ones moved up by 32, as the first gather takes them. -/
def wrapped : IVec S512x1x1 32 :=
  shapeCast S512x1x1 (select (cmpi .slt I (words 0#32)) (addi I (words 32#32)) I) shapeCasts_S512x1_S512x1x1

/-- Whether the moved index is an expert's number. -/
def valid : IVec S512x1 1 :=
  Host.reduce IntOp.andi (andi (cmpi .sge (wrapped I) (broadcastInDim S512x1x1 ![] bcast_S_S512x1x1 (constantI S_ 32 0#32)))
    (cmpi .sle (wrapped I) (broadcastInDim S512x1x1 ![0, 1, 2] bcast_S1x1x1_S512x1x1_0_1_2
      (broadcastInDim S1x1x1 ![2] bcast_S1_S1x1x1_2 (constantI S1 32 31#32)))))
    (constantI S_ 1 1#1) reducesTo_S512x1x1_S512x1_d2 h_S_

/-- Whether the index as given is an expert's number. -/
def inRange : IVec S512x1 1 := andi (cmpi .sge I (words 0#32)) (cmpi .slt I (words 32#32))

/-- The gates: zero where the index is no expert's number. -/
def gates : FVec Ideal S512x1 .f32 :=
  select (inRange I)
    (select (valid I) (Host.gather gather_S512x32_S512x1x1_S512x1_n_1_0_0_1_2_11 (probs X R) (wrapped I))
      (broadcastInDim S512x1 ![] bcast_S_S512x1 (constant S_ .f32 0x7FC00000#32)))
    (broadcastInDim S512x1 ![] bcast_S_S512x1 (id (constant S_ .f32 0x00000000#32)))

/-- The splat of one word over the tokens. -/
def words1 (w : BitVec 32) : IVec S512 32 := broadcastInDim S512 ![] bcast_S_S512 (constantI S_ 32 w)

/-- The index column as a vector. -/
def flat : IVec S512 32 := shapeCast S512 I shapeCasts_S512x1_S512

/-- The indices with the negative ones moved up by 32, as the second gather takes them. -/
def wrappedE : IVec S512x1 32 :=
  broadcastInDim S512x1 ![0] bcast_S512_S512x1_0
    (select (cmpi .slt (flat I) (words1 0#32)) (addi (flat I) (words1 32#32)) (flat I))

/-- Every token's row times its expert's matrix. -/
def routed : FVec Ideal S512x512 .f32 :=
  Host.dotGeneral dot_S512x256_S512x256x512_S512x512_1_1_n_2_0_0 none X
    (Host.gather gather_S32x256x512_S512x1_S512x256x512_12_0_n_n_0_1_1256512 W (wrappedE I))

/-- The reference's result. -/
def result : FVec Ideal S512x512 .f32 :=
  addf (Host.dotGeneral dot_S512x256_S256x512_S512x512_1_0_0_1_n_n none X S)
    (mulf (broadcastInDim S512x512 ![0, 1] bcast_S512x1_S512x512_0_1 (gates X R I)) (routed X I W))

/-- The run's term is this result. -/
theorem out_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v31
  rfl

/-! ## The softmax, row by row -/

variable (n : Fin 512)

theorem column_apply {α : Type} (v : S512.Idx → α) :
    broadcastInDim S512x1 ![0] bcast_S512_S512x1_0 v (ix2 n (0 : Fin 1)) = v (ix1 n) :=
  broadcastInDim_apply _ _ v _ _ fun a => by
    match a with
    | ⟨0, _⟩ => rfl

theorem spread_apply (v : FVec Ideal S512 .f32) (e : Fin 32) : spread v (ix2 n e) = v (ix1 n) := by
  refine (broadcastInDim_apply _ _ _ (ix2 n e) (ix2 n (0 : Fin 1)) fun a => ?_).trans (column_apply n v)
  match a with
  | ⟨0, _⟩ => rfl
  | ⟨1, _⟩ => rfl

theorem logits_apply (e : Fin 32) : logits X R (ix2 n e) = score (row X n) (rmat R) e :=
  StackMember.dotGeneral_plain_apply none X R n e

theorem reduces32 : S512x32.Reduces [1] S512 := by decide

theorem lift_row (e : Fin 32) : reduces32.lift (ix1 n) e = ix2 n e := by
  funext b
  match b with
  | ⟨0, _⟩ => rfl
  | ⟨1, _⟩ => rfl

theorem tops_apply : tops X R (ix1 n) = top (row X n) (rmat R) := by
  have hfold : Host.reduce FloatOps.maximumf (logits X R) (constant S_ .f32 0xFF800000#32) reducesTo_S512x32_S512_d1 h_S_ (ix1 n)
      = top (row X n) (rmat R) := by
    refine (Host.reduce_eq_fold_single (max : EReal → EReal → EReal) (logits X R) _ reducesTo_S512x32_S512_d1 reduces32
      h_S_ (ix1 n)).trans ?_
    exact congrArg (fun f => (Finset.univ : Finset (Fin 32)).fold max (Ideal.ofBits .f32 0xFF800000#32) f)
      (funext fun e => (congrArg (logits X R) (lift_row n e)).trans (logits_apply X R n e))
  have hlow : broadcastInDim S512 ![] bcast_S_S512 (constant (F := Ideal) S_ .f32 0xFF800000#32) (ix1 n)
      = Ideal.ofBits .f32 0xFF800000#32 := broadcastInDim_scalar_apply _ _ _
  refine (congrArg₂ (max : EReal → EReal → EReal) hlow hfold).trans (max_eq_right ?_)
  exact Finset.le_fold_max _ |>.2 (Or.inl le_rfl)

theorem exps_apply (e : Fin 32) : exps X R (ix2 n e) = weight (row X n) (rmat R) e := by
  show Ideal.exp (logits X R (ix2 n e) - spread (tops X R) (ix2 n e)) = _
  rw [logits_apply, spread_apply, tops_apply]
  rfl

theorem probs_apply (e : Fin 32) : probs X R (ix2 n e) = prob (row X n) (rmat R) e := by
  have hsum : Host.reduceAdd (exps X R) (constant S_ .f32 0x00000000#32) reducesTo_S512x32_S512_d1 h_S_ (ix1 n)
      = ∑ e' : Fin 32, weight (row X n) (rmat R) e' := by
    refine (Ideal.hostReduceAdd_single reducesTo_S512x32_S512_d1 reduces32 (exps X R) _ (ix1 n)).trans ?_
    refine (congrArg (· + _) Ideal.ofBits_zero_f32).trans ((zero_add _).trans (Finset.sum_congr rfl fun e' _ => ?_))
    exact (congrArg (exps X R) (lift_row n e')).trans (exps_apply X R n e')
  show Ideal.div (exps X R (ix2 n e)) (spread _ (ix2 n e)) = _
  rw [exps_apply, spread_apply, hsum]
  rfl

/-! ## The index -/

/-- An index that is an expert's number is left alone by the shift of negative indices. -/
theorem shift_ofNat : ∀ e : Fin 32, Scalar.select (IntOp.cmpi .slt (BitVec.ofNat 32 e.val) 0#32)
    (IntOp.addi (BitVec.ofNat 32 e.val) 32#32) (BitVec.ofNat 32 e.val) = BitVec.ofNat 32 e.val := by decide

/-- Read signed and clamped, it is that number. -/
theorem clamp_ofNat : ∀ e : Fin 32, min (BitVec.ofNat 32 e.val).toInt.toNat 31 = e.val := by decide

/-- The range test passes for the experts' numbers. -/
theorem range_ofNat : ∀ e : Fin 32, IntOp.andi (IntOp.cmpi .sge (BitVec.ofNat 32 e.val) 0#32)
    (IntOp.cmpi .slt (BitVec.ofNat 32 e.val) 32#32) = 1#1 := by decide

theorem valid_ofNat : ∀ e : Fin 32, IntOp.andi (IntOp.cmpi .sge (BitVec.ofNat 32 e.val) 0#32)
    (IntOp.cmpi .sle (BitVec.ofNat 32 e.val) 31#32) = 1#1 := by decide

/-- The range test fails for every other word. -/
theorem range_other (i : BitVec 32) (h : 32 ≤ i.toNat) :
    IntOp.andi (IntOp.cmpi .sge i 0#32) (IntOp.cmpi .slt i 32#32) = 0#1 := by
  show BitVec.ofBool ((0#32).sle i) &&& BitVec.ofBool (i.slt 32#32) = 0#1
  by_cases hs : 2 * i.toNat < 2 ^ 32
  · have : i.slt 32#32 = false := by
      rw [BitVec.slt, decide_eq_false_iff_not, BitVec.toInt_eq_toNat_cond, if_pos hs]
      show ¬ ((i.toNat : ℤ) < 32)
      omega
    rw [this]; exact BitVec.and_zero
  · have : (0#32).sle i = false := by
      rw [BitVec.sle, decide_eq_false_iff_not, BitVec.toInt_eq_toNat_cond (x := i), if_neg hs]
      show ¬ ((0 : ℤ) ≤ (i.toNat : ℤ) - (2 ^ 32 : ℕ))
      have := i.isLt
      omega
    rw [this]; exact BitVec.zero_and

theorem words_apply (w : BitVec 32) (j : S512x1.Idx) : words w j = w := broadcastInDim_scalar_apply _ _ _

theorem inRange_apply : inRange I (ix2 n (0 : Fin 1))
    = IntOp.andi (IntOp.cmpi .sge (I (ix2 n (0 : Fin 1))) 0#32) (IntOp.cmpi .slt (I (ix2 n (0 : Fin 1))) 32#32) := by
  show IntOp.andi (IntOp.cmpi .sge _ (words 0#32 _)) (IntOp.cmpi .slt _ (words 32#32 _)) = _
  rw [words_apply, words_apply]

theorem wrapped_apply : wrapped I (ix3 n (0 : Fin 1) (0 : Fin 1))
    = Scalar.select (IntOp.cmpi .slt (I (ix2 n (0 : Fin 1))) 0#32) (IntOp.addi (I (ix2 n (0 : Fin 1))) 32#32) (I (ix2 n (0 : Fin 1))) := by
  refine (shapeCast_apply _ _ (ix3 n (0 : Fin 1) (0 : Fin 1)) (ix2 n (0 : Fin 1)) ?_).trans ?_
  · rw [Shape.rowMajor_val_two, Shape.rowMajor_val_three]
    show n.val * 1 + 0 = (n.val * 1 + 0) * 1 + 0
    omega
  · show Scalar.select (IntOp.cmpi .slt _ (words 0#32 _)) (IntOp.addi _ (words 32#32 _)) _ = _
    rw [words_apply, words_apply]

theorem flat_apply : flat I (ix1 n) = I (ix2 n (0 : Fin 1)) :=
  shapeCast_apply _ _ _ _ (by
    rw [Shape.rowMajor_val_two, Shape.rowMajor_val_one]
    show n.val * 1 + 0 = n.val
    omega)

theorem wrappedE_apply : wrappedE I (ix2 n (0 : Fin 1))
    = Scalar.select (IntOp.cmpi .slt (I (ix2 n (0 : Fin 1))) 0#32) (IntOp.addi (I (ix2 n (0 : Fin 1))) 32#32) (I (ix2 n (0 : Fin 1))) := by
  have hw : ∀ w : BitVec 32, words1 w (ix1 n) = w := fun w => broadcastInDim_scalar_apply _ _ _
  refine (column_apply n _).trans ?_
  show Scalar.select (IntOp.cmpi .slt (flat I (ix1 n)) (words1 0#32 (ix1 n))) (IntOp.addi (flat I (ix1 n)) (words1 32#32 (ix1 n)))
    (flat I (ix1 n)) = _
  rw [hw, hw, flat_apply]

/-- A fold over one element. -/
theorem fold_one (f : Fin 1 → BitVec 1) (b : BitVec 1) :
    (Finset.univ : Finset (Fin 1)).fold IntOp.andi b f = IntOp.andi (f 0) b := by
  rw [Finset.univ_unique, Finset.fold_singleton]
  rfl

theorem reduces1 : S512x1x1.Reduces [2] S512x1 := by decide

theorem valid_apply : valid I (ix2 n (0 : Fin 1))
    = IntOp.andi (IntOp.andi (IntOp.cmpi .sge (wrapped I (ix3 n (0 : Fin 1) (0 : Fin 1))) 0#32)
        (IntOp.cmpi .sle (wrapped I (ix3 n (0 : Fin 1) (0 : Fin 1))) 31#32)) 1#1 := by
  refine (Host.reduce_eq_fold_single IntOp.andi _ _ reducesTo_S512x1x1_S512x1_d2 reduces1 h_S_ _).trans ?_
  have hl : reduces1.lift (ix2 n (0 : Fin 1)) (0 : Fin 1) = ix3 n (0 : Fin 1) (0 : Fin 1) := by
    funext b
    match b with
    | ⟨0, _⟩ => rfl
    | ⟨1, _⟩ => rfl
    | ⟨2, _⟩ => rfl
  refine (fold_one _ _).trans (congrArg (fun z => IntOp.andi z 1#1) ?_)
  exact (congrArg _ hl).trans rfl

/-! ## The result -/

/-- A token whose index is expert `e`'s number. -/
theorem result_expert (o : Fin 512) (e : Fin 32) (he : I (ix2 n (0 : Fin 1)) = BitVec.ofNat 32 e.val) :
    result X R I W S (ix2 n o)
      = lin (row X n) (col S o) + prob (row X n) (rmat R) e * lin (row X n) fun k => W (ix3 e k o) := by
  have hw : wrapped I (ix3 n (0 : Fin 1) (0 : Fin 1)) = BitVec.ofNat 32 e.val := by
    rw [wrapped_apply, he, shift_ofNat]
  have hwE : wrappedE I (ix2 n (0 : Fin 1)) = BitVec.ofNat 32 e.val := by
    rw [wrappedE_apply, he, shift_ofNat]
  have hg : gates X R I (ix2 n (0 : Fin 1)) = prob (row X n) (rmat R) e := by
    unfold gates
    rw [select_apply, inRange_apply, he, range_ofNat, select_one, select_apply, valid_apply, hw, valid_ofNat]
    refine (select_one _ _).trans ((take_prob _ _ n).trans ?_)
    rw [← probs_apply X R n e]
    exact congrArg (fun i => probs X R (ix2 n i)) (Fin.ext ((congrArg (fun w : BitVec 32 => min w.toInt.toNat 31) hw).trans (clamp_ofNat e)))
  have hr : routed X I W (ix2 n o) = lin (row X n) fun k => W (ix3 e k o) := by
    refine (own_product X _ n o).trans (Finset.sum_congr rfl fun k _ => ?_)
    refine congrArg (X (ix2 n k) * ·) ((take_expert W (wrappedE I) n k o).trans ?_)
    exact congrArg (fun i => W (ix3 i k o)) (Fin.ext ((congrArg (fun w : BitVec 32 => min w.toInt.toNat 31) hwE).trans (clamp_ofNat e)))
  have hb : broadcastInDim S512x512 ![0, 1] bcast_S512x1_S512x512_0_1 (gates X R I) (ix2 n o) = prob (row X n) (rmat R) e := by
    refine (broadcastInDim_apply _ _ _ (ix2 n o) (ix2 n (0 : Fin 1)) fun a => ?_).trans hg
    match a with
    | ⟨0, _⟩ => rfl
    | ⟨1, _⟩ => rfl
  exact congrArg₂ (fun a b : EReal => a + b) (StackMember.dotGeneral_plain_apply none X S n o)
    (congrArg₂ (fun a b : EReal => a * b) hb hr)

/-- A token whose index is no expert's number. -/
theorem result_none (o : Fin 512) (hi : 32 ≤ (I (ix2 n (0 : Fin 1))).toNat) :
    result X R I W S (ix2 n o) = lin (row X n) (col S o) := by
  have hg : gates X R I (ix2 n (0 : Fin 1)) = 0 := by
    unfold gates
    rw [select_apply, inRange_apply, range_other _ hi, select_zero]
    exact (broadcastInDim_scalar_apply _ _ _).trans Ideal.ofBits_zero_f32
  have hb : broadcastInDim S512x512 ![0, 1] bcast_S512x1_S512x512_0_1 (gates X R I) (ix2 n o) = 0 := by
    refine (broadcastInDim_apply _ _ _ (ix2 n o) (ix2 n (0 : Fin 1)) fun a => ?_).trans hg
    match a with
    | ⟨0, _⟩ => rfl
    | ⟨1, _⟩ => rfl
  refine (congrArg₂ (fun a b : EReal => a + b) (StackMember.dotGeneral_plain_apply none X S n o)
    (congrArg (fun a : EReal => a * routed X I W (ix2 n o)) hb)).trans ?_
  rw [zero_mul, add_zero]
  rfl

end Cert.RefEq
-- ==== Proof.Value.Equation.lean ====
module

public import proofs.«01_k».proof.Proof.Value.Sums
public import proofs.«01_k».proof.Proof.Value.RefValue

/-! # The kernel's result is the reference's

Of the sixteen contributions to a token only the one of the device that holds the token's expert can
differ from zero, and it is the product the reference takes. -/

@[expose] public section

noncomputable section

namespace Cert.Equation

open Cert.Moe Cert.ValueEq
open Idealize.ShloMosaic Idealize.ShloMosaic.ValueIdx Idealize.ShloMosaic.TcCoe

set_option backward.proofsInPublic true

/-! ## The experts a device holds -/

/-- The first of the two experts device `d` holds. -/
def fst (d : Fin 16) : Fin 32 := ⟨2 * d.val, by omega⟩
/-- The second. -/
def snd (d : Fin 16) : Fin 32 := ⟨2 * d.val + 1, by omega⟩

theorem word_fst : ∀ d : Fin 16, Cert.RunKernelIdeal.wexp d = BitVec.ofNat 32 (fst d).val := by decide +kernel

theorem word_snd : ∀ d : Fin 16, Cert.RunKernelIdeal.wexp d + 1#32 = BitVec.ofNat 32 (snd d).val := by decide +kernel

variable (W : (⟨3, ![32, 256, 512]⟩ : Shape).Idx → EReal)

theorem block_fst (d : Fin 16) (k : Fin 256) (o : Fin 512) :
    Layout.block ⟨3, ![2, 256, 512]⟩ ⟨3, ![32, 256, 512]⟩ 0 16 d W (by decide) (ix3 (0 : Fin 2) k o) = W (ix3 (fst d) k o) := by
  refine congrArg W (funext fun b => Fin.ext ?_)
  match b with
  | ⟨0, _⟩ => show d.val * 2 + 0 = 2 * d.val; omega
  | ⟨1, _⟩ => rfl
  | ⟨2, _⟩ => rfl

theorem block_snd (d : Fin 16) (k : Fin 256) (o : Fin 512) :
    Layout.block ⟨3, ![2, 256, 512]⟩ ⟨3, ![32, 256, 512]⟩ 0 16 d W (by decide) (ix3 (1 : Fin 2) k o) = W (ix3 (snd d) k o) := by
  refine congrArg W (funext fun b => Fin.ext ?_)
  match b with
  | ⟨0, _⟩ => show d.val * 2 + 1 = 2 * d.val + 1; omega
  | ⟨1, _⟩ => rfl
  | ⟨2, _⟩ => rfl

theorem block_rows (c : Fin 16) (v : (⟨2, ![512, 512]⟩ : Shape).Idx → EReal) (s : Fin 32) (o n : Fin 512)
    (hn : n.val = 32 * c.val + s.val) :
    Layout.block ⟨2, ![32, 512]⟩ ⟨2, ![512, 512]⟩ 0 16 c v (by decide) (ix2 s o) = v (ix2 n o) := by
  refine congrArg v (funext fun b => Fin.ext ?_)
  match b with
  | ⟨0, _⟩ => show c.val * 32 + s.val = n.val; omega
  | ⟨1, _⟩ => rfl

/-! ## The sum of the contributions -/

/-- What expert `e` gives one number of a token's output: nothing unless the token's index is `e`. -/
def given (v : Fin 256 → EReal) (R : Fin 256 → Fin 32 → EReal) (i : BitVec 32) (L : Fin 32 → EReal) (e : Fin 32) : EReal :=
  (if i = BitVec.ofNat 32 e.val then gate v R i else 0) * L e

variable (v : Fin 256 → EReal) (Q : Fin 256 → Fin 32 → EReal) (i : BitVec 32) (L : Fin 32 → EReal)

theorem given_self (e : Fin 32) (hi : i = BitVec.ofNat 32 e.val) : given v Q i L e = prob v Q e * L e := by
  unfold given
  rw [if_pos hi, hi, gate_ofNat]

theorem given_other (e : Fin 32) (hi : i.toNat ≠ e.val) : given v Q i L e = 0 := by
  unfold given
  rw [if_neg, zero_mul]
  intro h
  refine hi ?_
  rw [h, BitVec.toNat_ofNat, Nat.mod_eq_of_lt (by omega)]

/-- Over the devices, the pairs of experts give what the token's expert gives. -/
theorem given_sum (e : Fin 32) (hi : i = BitVec.ofNat 32 e.val) :
    ∑ d : Fin 16, (given v Q i L (fst d) + given v Q i L (snd d)) = prob v Q e * L e := by
  have hv : i.toNat = e.val := by rw [hi, BitVec.toNat_ofNat, Nat.mod_eq_of_lt (by omega)]
  rw [Finset.sum_eq_single (⟨e.val / 2, by omega⟩ : Fin 16)]
  · rcases Nat.mod_two_eq_zero_or_one e.val with h | h
    · have he : fst ⟨e.val / 2, by omega⟩ = e := Fin.ext (by show 2 * (e.val / 2) = e.val; omega)
      rw [he, given_self v Q i L e hi, given_other v Q i L (snd _), add_zero]
      show i.toNat ≠ 2 * (e.val / 2) + 1
      omega
    · have he : snd ⟨e.val / 2, by omega⟩ = e := Fin.ext (by show 2 * (e.val / 2) + 1 = e.val; omega)
      rw [he, given_self v Q i L e hi, given_other v Q i L (fst _), zero_add]
      show i.toNat ≠ 2 * (e.val / 2)
      omega
  · intro d _ hd
    have hd' : d.val ≠ e.val / 2 := fun h => hd (Fin.ext h)
    rw [given_other v Q i L (fst d) (by show i.toNat ≠ 2 * d.val; omega),
      given_other v Q i L (snd d) (by show i.toNat ≠ 2 * d.val + 1; omega), add_zero]
  · exact fun h => absurd (Finset.mem_univ _) h

/-- An index that is no expert's number leaves nothing. -/
theorem given_none (hi : 32 ≤ i.toNat) : ∑ d : Fin 16, (given v Q i L (fst d) + given v Q i L (snd d)) = 0 := by
  refine Finset.sum_eq_zero fun d _ => ?_
  rw [given_other v Q i L (fst d) (by omega), given_other v Q i L (snd d) (by omega), add_zero]

/-! ## The two results -/

variable (X : (⟨2, ![512, 256]⟩ : Shape).Idx → EReal) (R : (⟨2, ![256, 32]⟩ : Shape).Idx → EReal)
  (I : (⟨2, ![512, 1]⟩ : Shape).Idx → BitVec 32) (S : (⟨2, ![256, 512]⟩ : Shape).Idx → EReal)

theorem tokenPart_given (d : Fin 16) (n o : Fin 512) :
    tokenPart (Cert.RunKernelIdeal.wexp d) X R I
        (Layout.block ⟨3, ![2, 256, 512]⟩ ⟨3, ![32, 256, 512]⟩ 0 16 d W (by decide)) n o
      = given (row X n) (rmat R) (I (ix2 n (0 : Fin 1))) (fun e => lin (row X n) fun k => W (ix3 e k o)) (fst d)
        + given (row X n) (rmat R) (I (ix2 n (0 : Fin 1))) (fun e => lin (row X n) fun k => W (ix3 e k o)) (snd d) := by
  unfold tokenPart part given
  rw [word_snd d, word_fst d, funext fun k => block_fst W d k o, funext fun k => block_snd W d k o]

/-- All contributions to a number and the shared product make the reference's number. -/
theorem sum_result (n o : Fin 512) :
    (∑ d : Fin 16, tokenPart (Cert.RunKernelIdeal.wexp d) X R I
        (Layout.block ⟨3, ![2, 256, 512]⟩ ⟨3, ![32, 256, 512]⟩ 0 16 d W (by decide)) n o)
      + lin (row X n) (col S o) = Cert.RefEq.result X R I W S (ix2 n o) := by
  rw [Finset.sum_congr rfl fun d _ => tokenPart_given W X R I d n o]
  by_cases h : (I (ix2 n (0 : Fin 1))).toNat < 32
  · have he : I (ix2 n (0 : Fin 1)) = BitVec.ofNat 32 (⟨(I (ix2 n (0 : Fin 1))).toNat, h⟩ : Fin 32).val :=
      (by rw [BitVec.ofNat_toNat, BitVec.setWidth_eq])
    rw [given_sum _ _ _ _ _ he, Cert.RefEq.result_expert X R I W S n o _ he, add_comm]
  · rw [given_none _ _ _ _ (by omega), zero_add, Cert.RefEq.result_none X R I W S n o (by omega)]

open Cert.KernelIdeal in
/-- Device `c`'s result is block `c` of the reference's rows. -/
theorem outV_eq (m : (ℓ : Loc nD τ sig) → Buf (Elt Ideal) ℓ)
    (h : ∀ c : Dev nD, m ((c.tc : Thread nD τ).loc main_arg0) = X ∧ m ((c.tc : Thread nD τ).loc main_arg1) = R
      ∧ m ((c.tc : Thread nD τ).loc main_arg2) = I
      ∧ m ((c.tc : Thread nD τ).loc main_arg3) = Layout.block ⟨3, ![2, 256, 512]⟩ ⟨3, ![32, 256, 512]⟩ 0 16 c W
      ∧ m ((c.tc : Thread nD τ).loc main_arg4) = S) (c : Dev nD) :
    Cert.RunKernelIdeal.outV m c
      = Layout.block ⟨2, ![32, 512]⟩ ⟨2, ![512, 512]⟩ 0 16 c (Cert.RefEq.result X R I W S) := by
  funext j
  rw [eq_ix2 j]
  have hc : c.val < 16 := c.isLt
  have hj : (j 0).val < 32 := (j 0).isLt
  let n : Fin 512 := ⟨32 * c.val + (j 0).val, by omega⟩
  refine (out_sum m c (j 0) (j 1) n rfl).trans ?_
  refine Eq.trans ?_ ((sum_result W X R I S n (j 1)).trans (block_rows c _ (j 0) (j 1) n rfl).symm)
  refine congrArg₂ (· + ·) (Finset.sum_congr rfl fun d _ => ?_) ?_
  · show contrib m d n (j 1) = _
    unfold contrib
    rw [(Cert.RunKernelIdeal.xC_eq m d).trans (h d).1, (Cert.RunKernelIdeal.rC_eq m d).trans (h d).2.1,
      (Cert.RunKernelIdeal.iC_eq m d).trans (h d).2.2.1, (Cert.RunKernelIdeal.eC_eq m d).trans (h d).2.2.2.1]
  · rw [(Cert.RunKernelIdeal.xC_eq m c).trans (h c).1, (Cert.RunKernelIdeal.sC_eq m c).trans (h c).2.2.2.2]

end Cert.Equation
-- ==== Proof.lean ====
module

public import proofs.«01_k».proof.Defs
public import proofs.«01_k».proof.Proof.Gen.ReferenceIdeal.Run
public import proofs.«01_k».proof.Proof.RunKernel.Final
public import proofs.«01_k».proof.Proof.RunKernelIdeal.Final
public import proofs.«01_k».proof.Proof.Value.Equation

/-! # The claims: both programs run, and what they compute -/

@[expose] public section

noncomputable section

namespace Cert.Proof

open Idealize.ShloMosaic Idealize.SL.Sem

theorem frame_kernel : Cert.quiescent_Kernel := fun m g _ =>
  (θ_run Cert.Kernel.defs _ _).mono (fun _ h => ⟨fun c => (h.1 c).2, h.2⟩) (Cert.RunKernel.run_final (F := Bits) m g)

theorem frame_kernelIdeal : Cert.quiescent_KernelIdeal := fun m g _ =>
  (θ_run Cert.KernelIdeal.defs _ _).mono (fun _ h => ⟨fun c => (h.1 c).2, h.2⟩) (Cert.RunKernelIdeal.run_final (F := Ideal) m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem algebraic : Cert.algebraic_KernelIdeal_ReferenceIdeal := fun m g m' g' _ hin =>
  ⟨Cert.ReferenceIdeal.Value.res_out0 (F := Ideal) m' 0,
    (θ_run Cert.KernelIdeal.defs _ _).mono
      (fun _ h c => ⟨(h.1 c).1.trans ((Cert.Equation.outV_eq _ _ _ _ _ m hin c).trans
        (congrArg (fun v => Layout.block ⟨2, ![32, 512]⟩ ⟨2, ![512, 512]⟩ 0 16 c v) (Cert.RefEq.out_eq m' 0).symm)), (h.1 c).2⟩)
      (Cert.RunKernelIdeal.run_final (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
